-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_sqrt_d" .f32 0x3D3504F3#32 (((Real.sqrt 512)⁻¹ : ℝ) : EReal)
  ∧ IdealRules.named_const.Statement Cert.KernelIdeal.κ "inv_k_slot" .f32 0x3CF83E10#32 ((1 / 33 : ℝ) : EReal)
  ∧ IdealRules.named_const.Statement Cert.KernelIdeal.κ "inv_k_t" .f32 0x3D70F0F1#32 ((1 / 17 : ℝ) : EReal)

def algebraic_KernelIdeal_ReferenceIdeal_on_no_ties [hKernelIdeal : Cert.KernelIdeal.Facts] [hReferenceIdeal : Cert.ReferenceIdeal.Facts] [hOn_no_ties : Cert.On_no_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_5)) (v2 : (c : Dev Cert.KernelIdeal.nD) → Buf (Elt Ideal) ((c.tc : Thread Cert.KernelIdeal.nD Cert.KernelIdeal.τ).loc Cert.KernelIdeal.main_v8_6)) (v3 : (c : Dev Cert.KernelIdeal.nD) → Buf (Elt Ideal) ((c.tc : Thread Cert.KernelIdeal.nD Cert.KernelIdeal.τ).loc Cert.KernelIdeal.main_v8_7)) (v4 : (c : Dev Cert.KernelIdeal.nD) → Buf (Elt Ideal) ((c.tc : Thread Cert.KernelIdeal.nD Cert.KernelIdeal.τ).loc Cert.KernelIdeal.main_v8_1)) (v5 : (c : Dev Cert.KernelIdeal.nD) → Buf (Elt Ideal) ((c.tc : Thread Cert.KernelIdeal.nD Cert.KernelIdeal.τ).loc Cert.KernelIdeal.main_v8_2)) (v6 : (c : Dev Cert.KernelIdeal.nD) → Buf (Elt Ideal) ((c.tc : Thread Cert.KernelIdeal.nD Cert.KernelIdeal.τ).loc Cert.KernelIdeal.main_v8_3)) (v7 : (c : Dev Cert.KernelIdeal.nD) → Buf (Elt Ideal) ((c.tc : Thread Cert.KernelIdeal.nD Cert.KernelIdeal.τ).loc Cert.KernelIdeal.main_v8_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![2, 32, 256, 1024]⟩ : Shape).Idx, (Cert.On_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v8_0) i = v0 c i)
          ∧ (∀ i : (⟨2, ![1, 1]⟩ : Shape).Idx, (Cert.On_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v8_5) i = v1 c i)
          ∧ (∀ i : (⟨2, ![1, 1]⟩ : Shape).Idx, (Cert.On_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.KernelIdeal.nD Cert.KernelIdeal.τ).loc Cert.KernelIdeal.main_v8_6) i = v2 c i)
          ∧ (∀ i : (⟨2, ![1, 1]⟩ : Shape).Idx, (Cert.On_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.KernelIdeal.nD Cert.KernelIdeal.τ).loc Cert.KernelIdeal.main_v8_7) i = v3 c i)
          ∧ (∀ i : (⟨3, ![32, 256, 1]⟩ : Shape).Idx, (Cert.On_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 i = 1#1 → r.2.mem ((c.tc : Thread Cert.KernelIdeal.nD Cert.KernelIdeal.τ).loc Cert.KernelIdeal.main_v8_1) i = v4 c i)
          ∧ (∀ i : (⟨3, ![32, 256, 1]⟩ : Shape).Idx, (Cert.On_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 i = 1#1 → r.2.mem ((c.tc : Thread Cert.KernelIdeal.nD Cert.KernelIdeal.τ).loc Cert.KernelIdeal.main_v8_2) i = v5 c i)
          ∧ (∀ i : (⟨3, ![32, 256, 1]⟩ : Shape).Idx, (Cert.On_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 i = 1#1 → r.2.mem ((c.tc : Thread Cert.KernelIdeal.nD Cert.KernelIdeal.τ).loc Cert.KernelIdeal.main_v8_3) i = v6 c i)
          ∧ (∀ i : (⟨3, ![32, 256, 1]⟩ : Shape).Idx, (Cert.On_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 i = 1#1 → r.2.mem ((c.tc : Thread Cert.KernelIdeal.nD Cert.KernelIdeal.τ).loc Cert.KernelIdeal.main_v8_4) i = v7 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![2, 32, 256, 1024]⟩ : Shape).Idx, (Cert.On_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v171) i = v0 c i)
          ∧ (∀ i : (⟨2, ![1, 1]⟩ : Shape).Idx, (Cert.On_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v172) i = v1 c i)
          ∧ (∀ i : (⟨2, ![1, 1]⟩ : Shape).Idx, (Cert.On_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.ReferenceIdeal.nD Cert.ReferenceIdeal.τ).loc Cert.ReferenceIdeal.main_v173) i = v2 c i)
          ∧ (∀ i : (⟨2, ![1, 1]⟩ : Shape).Idx, (Cert.On_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.ReferenceIdeal.nD Cert.ReferenceIdeal.τ).loc Cert.ReferenceIdeal.main_v174) i = v3 c i)
          ∧ (∀ i : (⟨3, ![32, 256, 1]⟩ : Shape).Idx, (Cert.On_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 i = 1#1 → r.2.mem ((c.tc : Thread Cert.ReferenceIdeal.nD Cert.ReferenceIdeal.τ).loc Cert.ReferenceIdeal.main_v175) i = v4 c i)
          ∧ (∀ i : (⟨3, ![32, 256, 1]⟩ : Shape).Idx, (Cert.On_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 i = 1#1 → r.2.mem ((c.tc : Thread Cert.ReferenceIdeal.nD Cert.ReferenceIdeal.τ).loc Cert.ReferenceIdeal.main_v176) i = v5 c i)
          ∧ (∀ i : (⟨3, ![32, 256, 1]⟩ : Shape).Idx, (Cert.On_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 i = 1#1 → r.2.mem ((c.tc : Thread Cert.ReferenceIdeal.nD Cert.ReferenceIdeal.τ).loc Cert.ReferenceIdeal.main_v177) i = v6 c i)
          ∧ (∀ i : (⟨3, ![32, 256, 1]⟩ : Shape).Idx, (Cert.On_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 i = 1#1 → r.2.mem ((c.tc : Thread Cert.ReferenceIdeal.nD Cert.ReferenceIdeal.τ).loc Cert.ReferenceIdeal.main_v178) i = v7 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hOn_no_ties : Cert.On_no_ties.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_no_ties (hKernelIdeal := hKernelIdeal) (hReferenceIdeal := hReferenceIdeal) (hOn_no_ties := hOn_no_ties)
-- ==== On_no_ties.lean ====
abbrev S64x256x512 : Shape := ⟨3, ![64, 256, 512]⟩
abbrev S512x512 : Shape := ⟨2, ![512, 512]⟩
abbrev S512 : Shape := ⟨1, ![512]⟩
abbrev S32x256x512 : Shape := ⟨3, ![32, 256, 512]⟩
abbrev S_ : Shape := ⟨0, ![]⟩
abbrev S32x256x512x512 : Shape := ⟨4, ![32, 256, 512, 512]⟩
abbrev S32x256 : Shape := ⟨2, ![32, 256]⟩
abbrev S32x256x33 : Shape := ⟨3, ![32, 256, 33]⟩
abbrev S32x256x256 : Shape := ⟨3, ![32, 256, 256]⟩
abbrev S32 : Shape := ⟨1, ![32]⟩
abbrev S2x32x256x1024 : Shape := ⟨4, ![2, 32, 256, 1024]⟩
abbrev S1x1 : Shape := ⟨2, ![1, 1]⟩
abbrev S32x256x1 : Shape := ⟨3, ![32, 256, 1]⟩

class Facts : Prop where
  slices_S64x256x512_S32x256x512_0_0_0 : S64x256x512.Slices ![0, 0, 0] S32x256x512
  slices_S64x256x512_S32x256x512_32_0_0 : S64x256x512.Slices ![32, 0, 0] S32x256x512
  bcast_S_S32x256x512 : S_.BroadcastsInDim S32x256x512 (![] : Fin 0 → Fin S32x256x512.rank)
  bcast_S32x256x512_S32x256x512x512_0_1_2 : S32x256x512.BroadcastsInDim S32x256x512x512 (![0, 1, 2] : Fin 3 → Fin S32x256x512x512.rank)
  bcast_S32x256x512_S32x256x512x512_0_1_3 : S32x256x512.BroadcastsInDim S32x256x512x512 (![0, 1, 3] : Fin 3 → Fin S32x256x512x512.rank)
  reducesTo_S32x256x512x512_S32x256_d2_3 : S32x256x512x512.ReducesTo [2, 3] S32x256
  h_S_ : 0 < S_.numel
  reducesTo_S32x256_S_d0_1 : S32x256.ReducesTo [0, 1] S_
  sliceFits_S32x256x512_S32x256x33 : S32x256x512.Slices (fun _ => 0) S32x256x33
  reducesTo_S32x256x33_S32x256_d2 : S32x256x33.ReducesTo [2] S32x256
  bcast_S32x256_S32x256x256_0_1 : S32x256.BroadcastsInDim S32x256x256 (![0, 1] : Fin 2 → Fin S32x256x256.rank)
  bcast_S32x256_S32x256x256_0_2 : S32x256.BroadcastsInDim S32x256x256 (![0, 2] : Fin 2 → Fin S32x256x256.rank)
  reducesTo_S32x256x256_S32_d1_2 : S32x256x256.ReducesTo [1, 2] S32
  reducesTo_S32_S_d0 : S32.ReducesTo [0] S_
  bcast_S_S2x32x256x1024 : S_.BroadcastsInDim S2x32x256x1024 (![] : Fin 0 → Fin S2x32x256x1024.rank)
  bcast_S_S1x1 : S_.BroadcastsInDim S1x1 (![] : Fin 0 → Fin S1x1.rank)
  bcast_S32x256_S32x256x1_0_1 : S32x256.BroadcastsInDim S32x256x1 (![0, 1] : Fin 2 → Fin S32x256x1.rank)
  dot_S32x256x512_S512x512_S32x256x512_2_1_01_0_n_n_wf : DotDims.WF S32x256x512 S512x512 S32x256x512 [2] [1] [0, 1] [0] [] []

variable [Facts]

def dot_S32x256x512_S512x512_S32x256x512_2_1_01_0_n_n : DotDims S32x256x512 S512x512 S32x256x512 where
  lhsContracting := [2]
  rhsContracting := [1]
  lhsNonContracting := [0, 1]
  rhsNonContracting := [0]
  lhsBatch := []
  rhsBatch := []
  wf := dot_S32x256x512_S512x512_S32x256x512_2_1_01_0_n_n_wf
def fn_part6 {F : FTy → Type} [FloatOps F] (main_v49 : IVec S32x256 1) (main_v57 : IVec S32x256 1) (main_v65 : IVec S32x256 1) (main_v73 : IVec S32x256 1) (main_v85 : IVec S_ 1) (main_v97 : IVec S_ 1) (main_v109 : IVec S_ 1) : IVec S2x32x256x1024 1 × IVec S1x1 1 × IVec S1x1 1 × IVec S1x1 1 × IVec S32x256x1 1 × IVec S32x256x1 1 × IVec S32x256x1 1 × IVec S32x256x1 1 :=
  let main_c_30 : IVec S_ 1 := constantI S_ 1 1#1
  let main_v110 : IVec S2x32x256x1024 1 := broadcastInDim S2x32x256x1024 ![] bcast_S_S2x32x256x1024 main_c_30
  let main_v111 : IVec S_ 1 := andi main_v85 main_v97
  let main_v112 : IVec S_ 1 := andi main_v111 main_v109
  let main_v113 : IVec S1x1 1 := broadcastInDim S1x1 ![] bcast_S_S1x1 main_v112
  let main_c_31 : IVec S_ 1 := constantI S_ 1 1#1
  let main_v114 : IVec S1x1 1 := broadcastInDim S1x1 ![] bcast_S_S1x1 main_c_31
  let main_v115 : IVec S_ 1 := andi main_v85 main_v97
  let main_v116 : IVec S1x1 1 := broadcastInDim S1x1 ![] bcast_S_S1x1 main_v115
  let main_v117 : IVec S32x256x1 1 := broadcastInDim S32x256x1 ![0, 1] bcast_S32x256_S32x256x1_0_1 main_v49
  let main_v118 : IVec S32x256x1 1 := broadcastInDim S32x256x1 ![0, 1] bcast_S32x256_S32x256x1_0_1 main_v57
  let main_v119 : IVec S32x256x1 1 := broadcastInDim S32x256x1 ![0, 1] bcast_S32x256_S32x256x1_0_1 main_v65
  let main_v120 : IVec S32x256x1 1 := broadcastInDim S32x256x1 ![0, 1] bcast_S32x256_S32x256x1_0_1 main_v73
  (main_v110, main_v113, main_v114, main_v116, main_v117, main_v118, main_v119, main_v120)

def fn_part5 {F : FTy → Type} [FloatOps F] (main_v41 : FVec F S32x256x512 .f32) (main_v49 : IVec S32x256 1) (main_v57 : IVec S32x256 1) (main_v65 : IVec S32x256 1) (main_v73 : IVec S32x256 1) (main_v85 : IVec S_ 1) (main_v86 : IVec S_ 1) (main_v92 : IVec S32x256x256 1) (main_v93 : IVec S32x256x256 1) : IVec S2x32x256x1024 1 × IVec S1x1 1 × IVec S1x1 1 × IVec S1x1 1 × IVec S32x256x1 1 × IVec S32x256x1 1 × IVec S32x256x1 1 × IVec S32x256x1 1 :=
  let main_v94 : IVec S32x256x256 1 := ori main_v92 main_v93
  let main_c_22 : IVec S_ 1 := constantI S_ 1 1#1
  let main_v95 : IVec S32 1 := (fun x v => Host.reduce IntOp.andi x v reducesTo_S32x256x256_S32_d1_2 h_S_) main_v94 main_c_22
  let main_c_23 : IVec S_ 1 := constantI S_ 1 1#1
  let main_v96 : IVec S_ 1 := (fun x v => Host.reduce IntOp.andi x v reducesTo_S32_S_d0 h_S_) main_v95 main_c_23
  let main_v97 : IVec S_ 1 := andi main_v86 main_v96
  let main_c_24 : IVec S_ 1 := constantI S_ 1 1#1
  let main_v98 : IVec S_ 1 := (fun x v => Host.reduce IntOp.andi x v reducesTo_S32x256_S_d0_1 h_S_) main_v73 main_c_24
  let main_values_25 : FVec F S32x256x33 .f32 := (fun x => (Host.topK S32x256x33 2 (FloatOps.cmpfTotal .gt) x sliceFits_S32x256x512_S32x256x33).1) main_v41
  let main_indices_26 : IVec S32x256x33 32 := (fun x => (Host.topK S32x256x33 2 (FloatOps.cmpfTotal .gt) x sliceFits_S32x256x512_S32x256x33).2) main_v41
  let main_cst_27 : FVec F S_ .f32 := constant S_ .f32 0x00000000#32
  let main_v99 : FVec F S32x256 .f32 := (fun x v => Host.reduceAdd x v reducesTo_S32x256x33_S32x256_d2 h_S_) main_values_25 main_cst_27
  let main_v100 : IVec S32x256x256 32 := iotaInDim S32x256x256 32 1
  let main_v101 : IVec S32x256x256 32 := iotaInDim S32x256x256 32 2
  let main_v102 : FVec F S32x256x256 .f32 := broadcastInDim S32x256x256 ![0, 1] bcast_S32x256_S32x256x256_0_1 main_v99
  let main_v103 : FVec F S32x256x256 .f32 := broadcastInDim S32x256x256 ![0, 2] bcast_S32x256_S32x256x256_0_2 main_v99
  let main_v104 : IVec S32x256x256 1 := cmpi .eq main_v100 main_v101
  let main_v105 : IVec S32x256x256 1 := cmpf .une main_v102 main_v103
  let main_v106 : IVec S32x256x256 1 := ori main_v104 main_v105
  let main_c_28 : IVec S_ 1 := constantI S_ 1 1#1
  let main_v107 : IVec S32 1 := (fun x v => Host.reduce IntOp.andi x v reducesTo_S32x256x256_S32_d1_2 h_S_) main_v106 main_c_28
  let main_c_29 : IVec S_ 1 := constantI S_ 1 1#1
  let main_v108 : IVec S_ 1 := (fun x v => Host.reduce IntOp.andi x v reducesTo_S32_S_d0 h_S_) main_v107 main_c_29
  let main_v109 : IVec S_ 1 := andi main_v98 main_v108
  fn_part6 (F := F) main_v49 main_v57 main_v65 main_v73 main_v85 main_v97 main_v109

def fn_part4 {F : FTy → Type} [FloatOps F] (main_v21 : FVec F S32x256x512 .f32) (main_v41 : FVec F S32x256x512 .f32) (main_v49 : IVec S32x256 1) (main_v57 : IVec S32x256 1) (main_v65 : IVec S32x256 1) (main_v73 : IVec S32x256 1) (main_v74 : IVec S_ 1) (main_v75 : FVec F S32x256 .f32) : IVec S2x32x256x1024 1 × IVec S1x1 1 × IVec S1x1 1 × IVec S1x1 1 × IVec S32x256x1 1 × IVec S32x256x1 1 × IVec S32x256x1 1 × IVec S32x256x1 1 :=
  let main_v76 : IVec S32x256x256 32 := iotaInDim S32x256x256 32 1
  let main_v77 : IVec S32x256x256 32 := iotaInDim S32x256x256 32 2
  let main_v78 : FVec F S32x256x256 .f32 := broadcastInDim S32x256x256 ![0, 1] bcast_S32x256_S32x256x256_0_1 main_v75
  let main_v79 : FVec F S32x256x256 .f32 := broadcastInDim S32x256x256 ![0, 2] bcast_S32x256_S32x256x256_0_2 main_v75
  let main_v80 : IVec S32x256x256 1 := cmpi .eq main_v76 main_v77
  let main_v81 : IVec S32x256x256 1 := cmpf .une main_v78 main_v79
  let main_v82 : IVec S32x256x256 1 := ori main_v80 main_v81
  let main_c_16 : IVec S_ 1 := constantI S_ 1 1#1
  let main_v83 : IVec S32 1 := (fun x v => Host.reduce IntOp.andi x v reducesTo_S32x256x256_S32_d1_2 h_S_) main_v82 main_c_16
  let main_c_17 : IVec S_ 1 := constantI S_ 1 1#1
  let main_v84 : IVec S_ 1 := (fun x v => Host.reduce IntOp.andi x v reducesTo_S32_S_d0 h_S_) main_v83 main_c_17
  let main_v85 : IVec S_ 1 := andi main_v74 main_v84
  let main_c_18 : IVec S_ 1 := constantI S_ 1 1#1
  let main_v86 : IVec S_ 1 := (fun x v => Host.reduce IntOp.andi x v reducesTo_S32x256_S_d0_1 h_S_) main_v57 main_c_18
  let main_values_19 : FVec F S32x256x33 .f32 := (fun x => (Host.topK S32x256x33 2 (FloatOps.cmpfTotal .gt) x sliceFits_S32x256x512_S32x256x33).1) main_v21
  let main_indices_20 : IVec S32x256x33 32 := (fun x => (Host.topK S32x256x33 2 (FloatOps.cmpfTotal .gt) x sliceFits_S32x256x512_S32x256x33).2) main_v21
  let main_cst_21 : FVec F S_ .f32 := constant S_ .f32 0x00000000#32
  let main_v87 : FVec F S32x256 .f32 := (fun x v => Host.reduceAdd x v reducesTo_S32x256x33_S32x256_d2 h_S_) main_values_19 main_cst_21
  let main_v88 : IVec S32x256x256 32 := iotaInDim S32x256x256 32 1
  let main_v89 : IVec S32x256x256 32 := iotaInDim S32x256x256 32 2
  let main_v90 : FVec F S32x256x256 .f32 := broadcastInDim S32x256x256 ![0, 1] bcast_S32x256_S32x256x256_0_1 main_v87
  let main_v91 : FVec F S32x256x256 .f32 := broadcastInDim S32x256x256 ![0, 2] bcast_S32x256_S32x256x256_0_2 main_v87
  let main_v92 : IVec S32x256x256 1 := cmpi .eq main_v88 main_v89
  let main_v93 : IVec S32x256x256 1 := cmpf .une main_v90 main_v91
  fn_part5 (F := F) main_v41 main_v49 main_v57 main_v65 main_v73 main_v85 main_v86 main_v92 main_v93

def fn_part3 {F : FTy → Type} [FloatOps F] (main_v11 : FVec F S32x256x512 .f32) (main_v21 : FVec F S32x256x512 .f32) (main_v31 : FVec F S32x256x512 .f32) (main_v41 : FVec F S32x256x512 .f32) (main_v49 : IVec S32x256 1) (main_v57 : IVec S32x256 1) : IVec S2x32x256x1024 1 × IVec S1x1 1 × IVec S1x1 1 × IVec S1x1 1 × IVec S32x256x1 1 × IVec S32x256x1 1 × IVec S32x256x1 1 × IVec S32x256x1 1 :=
  let main_v58 : IVec S32x256x512x512 32 := iotaInDim S32x256x512x512 32 2
  let main_v59 : IVec S32x256x512x512 32 := iotaInDim S32x256x512x512 32 3
  let main_v60 : FVec F S32x256x512x512 .f32 := broadcastInDim S32x256x512x512 ![0, 1, 2] bcast_S32x256x512_S32x256x512x512_0_1_2 main_v31
  let main_v61 : FVec F S32x256x512x512 .f32 := broadcastInDim S32x256x512x512 ![0, 1, 3] bcast_S32x256x512_S32x256x512x512_0_1_3 main_v31
  let main_v62 : IVec S32x256x512x512 1 := cmpi .eq main_v58 main_v59
  let main_v63 : IVec S32x256x512x512 1 := cmpf .une main_v60 main_v61
  let main_v64 : IVec S32x256x512x512 1 := ori main_v62 main_v63
  let main_c_12 : IVec S_ 1 := constantI S_ 1 1#1
  let main_v65 : IVec S32x256 1 := (fun x v => Host.reduce IntOp.andi x v reducesTo_S32x256x512x512_S32x256_d2_3 h_S_) main_v64 main_c_12
  let main_v66 : IVec S32x256x512x512 32 := iotaInDim S32x256x512x512 32 2
  let main_v67 : IVec S32x256x512x512 32 := iotaInDim S32x256x512x512 32 3
  let main_v68 : FVec F S32x256x512x512 .f32 := broadcastInDim S32x256x512x512 ![0, 1, 2] bcast_S32x256x512_S32x256x512x512_0_1_2 main_v41
  let main_v69 : FVec F S32x256x512x512 .f32 := broadcastInDim S32x256x512x512 ![0, 1, 3] bcast_S32x256x512_S32x256x512x512_0_1_3 main_v41
  let main_v70 : IVec S32x256x512x512 1 := cmpi .eq main_v66 main_v67
  let main_v71 : IVec S32x256x512x512 1 := cmpf .une main_v68 main_v69
  let main_v72 : IVec S32x256x512x512 1 := ori main_v70 main_v71
  let main_c_13 : IVec S_ 1 := constantI S_ 1 1#1
  let main_v73 : IVec S32x256 1 := (fun x v => Host.reduce IntOp.andi x v reducesTo_S32x256x512x512_S32x256_d2_3 h_S_) main_v72 main_c_13
  let main_c_14 : IVec S_ 1 := constantI S_ 1 1#1
  let main_v74 : IVec S_ 1 := (fun x v => Host.reduce IntOp.andi x v reducesTo_S32x256_S_d0_1 h_S_) main_v49 main_c_14
  let main_values : FVec F S32x256x33 .f32 := (fun x => (Host.topK S32x256x33 2 (FloatOps.cmpfTotal .gt) x sliceFits_S32x256x512_S32x256x33).1) main_v11
  let main_indices : IVec S32x256x33 32 := (fun x => (Host.topK S32x256x33 2 (FloatOps.cmpfTotal .gt) x sliceFits_S32x256x512_S32x256x33).2) main_v11
  let main_cst_15 : FVec F S_ .f32 := constant S_ .f32 0x00000000#32
  let main_v75 : FVec F S32x256 .f32 := (fun x v => Host.reduceAdd x v reducesTo_S32x256x33_S32x256_d2 h_S_) main_values main_cst_15
  fn_part4 (F := F) main_v21 main_v41 main_v49 main_v57 main_v65 main_v73 main_v74 main_v75

def fn_part2 {F : FTy → Type} [FloatOps F] (main_v11 : FVec F S32x256x512 .f32) (main_v21 : FVec F S32x256x512 .f32) (main_v31 : FVec F S32x256x512 .f32) (main_v37 : FVec F S32x256x512 .f32) : IVec S2x32x256x1024 1 × IVec S1x1 1 × IVec S1x1 1 × IVec S1x1 1 × IVec S32x256x1 1 × IVec S32x256x1 1 × IVec S32x256x1 1 × IVec S32x256x1 1 :=
  let main_cst_9 : FVec F S_ .f32 := constant S_ .f32 0x3F800000#32
  let main_v38 : FVec F S32x256x512 .f32 := broadcastInDim S32x256x512 ![] bcast_S_S32x256x512 main_cst_9
  let main_v39 : FVec F S32x256x512 .f32 := addf main_v38 main_v37
  let main_cst_10 : FVec F S_ .f32 := constant S_ .f32 0x3F800000#32
  let main_v40 : FVec F S32x256x512 .f32 := broadcastInDim S32x256x512 ![] bcast_S_S32x256x512 main_cst_10
  let main_v41 : FVec F S32x256x512 .f32 := Host.divf main_v40 main_v39
  let main_v42 : IVec S32x256x512x512 32 := iotaInDim S32x256x512x512 32 2
  let main_v43 : IVec S32x256x512x512 32 := iotaInDim S32x256x512x512 32 3
  let main_v44 : FVec F S32x256x512x512 .f32 := broadcastInDim S32x256x512x512 ![0, 1, 2] bcast_S32x256x512_S32x256x512x512_0_1_2 main_v11
  let main_v45 : FVec F S32x256x512x512 .f32 := broadcastInDim S32x256x512x512 ![0, 1, 3] bcast_S32x256x512_S32x256x512x512_0_1_3 main_v11
  let main_v46 : IVec S32x256x512x512 1 := cmpi .eq main_v42 main_v43
  let main_v47 : IVec S32x256x512x512 1 := cmpf .une main_v44 main_v45
  let main_v48 : IVec S32x256x512x512 1 := ori main_v46 main_v47
  let main_c : IVec S_ 1 := constantI S_ 1 1#1
  let main_v49 : IVec S32x256 1 := (fun x v => Host.reduce IntOp.andi x v reducesTo_S32x256x512x512_S32x256_d2_3 h_S_) main_v48 main_c
  let main_v50 : IVec S32x256x512x512 32 := iotaInDim S32x256x512x512 32 2
  let main_v51 : IVec S32x256x512x512 32 := iotaInDim S32x256x512x512 32 3
  let main_v52 : FVec F S32x256x512x512 .f32 := broadcastInDim S32x256x512x512 ![0, 1, 2] bcast_S32x256x512_S32x256x512x512_0_1_2 main_v21
  let main_v53 : FVec F S32x256x512x512 .f32 := broadcastInDim S32x256x512x512 ![0, 1, 3] bcast_S32x256x512_S32x256x512x512_0_1_3 main_v21
  let main_v54 : IVec S32x256x512x512 1 := cmpi .eq main_v50 main_v51
  let main_v55 : IVec S32x256x512x512 1 := cmpf .une main_v52 main_v53
  let main_v56 : IVec S32x256x512x512 1 := ori main_v54 main_v55
  let main_c_11 : IVec S_ 1 := constantI S_ 1 1#1
  let main_v57 : IVec S32x256 1 := (fun x v => Host.reduce IntOp.andi x v reducesTo_S32x256x512x512_S32x256_d2_3 h_S_) main_v56 main_c_11
  fn_part3 (F := F) main_v11 main_v21 main_v31 main_v41 main_v49 main_v57

def fn_part1 {F : FTy → Type} [FloatOps F] (main_arg1 : FVec F S512x512 .f32) (main_arg2 : FVec F S512x512 .f32) (main_v0 : FVec F S32x256x512 .f32) (main_v1 : FVec F S32x256x512 .f32) (main_v11 : FVec F S32x256x512 .f32) (main_v17 : FVec F S32x256x512 .f32) (main_v18 : FVec F S32x256x512 .f32) : IVec S2x32x256x1024 1 × IVec S1x1 1 × IVec S1x1 1 × IVec S1x1 1 × IVec S32x256x1 1 × IVec S32x256x1 1 × IVec S32x256x1 1 × IVec S32x256x1 1 :=
  let main_v19 : FVec F S32x256x512 .f32 := addf main_v18 main_v17
  let main_cst_4 : FVec F S_ .f32 := constant S_ .f32 0x3F800000#32
  let main_v20 : FVec F S32x256x512 .f32 := broadcastInDim S32x256x512 ![] bcast_S_S32x256x512 main_cst_4
  let main_v21 : FVec F S32x256x512 .f32 := Host.divf main_v20 main_v19
  let main_v22 : FVec F S32x256x512 .f32 := (fun l r => Host.dotGeneral dot_S32x256x512_S512x512_S32x256x512_2_1_01_0_n_n none l r) main_v0 main_arg1
  let main_cst_5 : FVec F S_ .f32 := constant S_ .f32 0x44000000#32
  let main_v23 : FVec F S_ .f32 := Host.sqrt main_cst_5
  let main_v24 : FVec F S32x256x512 .f32 := broadcastInDim S32x256x512 ![] bcast_S_S32x256x512 main_v23
  let main_v25 : FVec F S32x256x512 .f32 := Host.divf main_v22 main_v24
  let main_v26 : FVec F S32x256x512 .f32 := Host.negf main_v25
  let main_v27 : FVec F S32x256x512 .f32 := Host.exp main_v26
  let main_cst_6 : FVec F S_ .f32 := constant S_ .f32 0x3F800000#32
  let main_v28 : FVec F S32x256x512 .f32 := broadcastInDim S32x256x512 ![] bcast_S_S32x256x512 main_cst_6
  let main_v29 : FVec F S32x256x512 .f32 := addf main_v28 main_v27
  let main_cst_7 : FVec F S_ .f32 := constant S_ .f32 0x3F800000#32
  let main_v30 : FVec F S32x256x512 .f32 := broadcastInDim S32x256x512 ![] bcast_S_S32x256x512 main_cst_7
  let main_v31 : FVec F S32x256x512 .f32 := Host.divf main_v30 main_v29
  let main_v32 : FVec F S32x256x512 .f32 := (fun l r => Host.dotGeneral dot_S32x256x512_S512x512_S32x256x512_2_1_01_0_n_n none l r) main_v1 main_arg2
  let main_cst_8 : FVec F S_ .f32 := constant S_ .f32 0x44000000#32
  let main_v33 : FVec F S_ .f32 := Host.sqrt main_cst_8
  let main_v34 : FVec F S32x256x512 .f32 := broadcastInDim S32x256x512 ![] bcast_S_S32x256x512 main_v33
  let main_v35 : FVec F S32x256x512 .f32 := Host.divf main_v32 main_v34
  let main_v36 : FVec F S32x256x512 .f32 := Host.negf main_v35
  let main_v37 : FVec F S32x256x512 .f32 := Host.exp main_v36
  fn_part2 (F := F) main_v11 main_v21 main_v31 main_v37

def fn {F : FTy → Type} [FloatOps F] (main_arg0 : FVec F S64x256x512 .f32) (main_arg1 : FVec F S512x512 .f32) (main_arg2 : FVec F S512x512 .f32) (main_arg3 : FVec F S512x512 .f32) (main_arg4 : FVec F S512 .f32) (main_arg5 : FVec F S512x512 .f32) (main_arg6 : FVec F S512 .f32) (main_arg7 : FVec F S32x256x512 .f32) : IVec S2x32x256x1024 1 × IVec S1x1 1 × IVec S1x1 1 × IVec S1x1 1 × IVec S32x256x1 1 × IVec S32x256x1 1 × IVec S32x256x1 1 × IVec S32x256x1 1 :=
  let main_v0 : FVec F S32x256x512 .f32 := (extractStridedSlice S32x256x512 ![0, 0, 0] · slices_S64x256x512_S32x256x512_0_0_0) main_arg0
  let main_v1 : FVec F S32x256x512 .f32 := (extractStridedSlice S32x256x512 ![32, 0, 0] · slices_S64x256x512_S32x256x512_32_0_0) main_arg0
  let main_v2 : FVec F S32x256x512 .f32 := (fun l r => Host.dotGeneral dot_S32x256x512_S512x512_S32x256x512_2_1_01_0_n_n none l r) main_v1 main_arg1
  let main_cst : FVec F S_ .f32 := constant S_ .f32 0x44000000#32
  let main_v3 : FVec F S_ .f32 := Host.sqrt main_cst
  let main_v4 : FVec F S32x256x512 .f32 := broadcastInDim S32x256x512 ![] bcast_S_S32x256x512 main_v3
  let main_v5 : FVec F S32x256x512 .f32 := Host.divf main_v2 main_v4
  let main_v6 : FVec F S32x256x512 .f32 := Host.negf main_v5
  let main_v7 : FVec F S32x256x512 .f32 := Host.exp main_v6
  let main_cst_0 : FVec F S_ .f32 := constant S_ .f32 0x3F800000#32
  let main_v8 : FVec F S32x256x512 .f32 := broadcastInDim S32x256x512 ![] bcast_S_S32x256x512 main_cst_0
  let main_v9 : FVec F S32x256x512 .f32 := addf main_v8 main_v7
  let main_cst_1 : FVec F S_ .f32 := constant S_ .f32 0x3F800000#32
  let main_v10 : FVec F S32x256x512 .f32 := broadcastInDim S32x256x512 ![] bcast_S_S32x256x512 main_cst_1
  let main_v11 : FVec F S32x256x512 .f32 := Host.divf main_v10 main_v9
  let main_v12 : FVec F S32x256x512 .f32 := (fun l r => Host.dotGeneral dot_S32x256x512_S512x512_S32x256x512_2_1_01_0_n_n none l r) main_v0 main_arg2
  let main_cst_2 : FVec F S_ .f32 := constant S_ .f32 0x44000000#32
  let main_v13 : FVec F S_ .f32 := Host.sqrt main_cst_2
  let main_v14 : FVec F S32x256x512 .f32 := broadcastInDim S32x256x512 ![] bcast_S_S32x256x512 main_v13
  let main_v15 : FVec F S32x256x512 .f32 := Host.divf main_v12 main_v14
  let main_v16 : FVec F S32x256x512 .f32 := Host.negf main_v15
  let main_v17 : FVec F S32x256x512 .f32 := Host.exp main_v16
  let main_cst_3 : FVec F S_ .f32 := constant S_ .f32 0x3F800000#32
  let main_v18 : FVec F S32x256x512 .f32 := broadcastInDim S32x256x512 ![] bcast_S_S32x256x512 main_cst_3
  fn_part1 (F := F) main_arg1 main_arg2 main_v0 main_v1 main_v11 main_v17 main_v18
-- ==== Kernel.lean ====
abbrev S64x256x512 : Shape := ⟨3, ![64, 256, 512]⟩
abbrev S512x512 : Shape := ⟨2, ![512, 512]⟩
abbrev S512 : Shape := ⟨1, ![512]⟩
abbrev S32x256x512 : Shape := ⟨3, ![32, 256, 512]⟩
abbrev S2x32x256x512 : Shape := ⟨4, ![2, 32, 256, 512]⟩
abbrev S512x1024 : Shape := ⟨2, ![512, 1024]⟩
abbrev S1x512 : Shape := ⟨2, ![1, 512]⟩
abbrev S2x32x256x1024 : Shape := ⟨4, ![2, 32, 256, 1024]⟩
abbrev S32x256x1 : Shape := ⟨3, ![32, 256, 1]⟩
abbrev S1x1 : Shape := ⟨2, ![1, 1]⟩
abbrev S2x1x256x512 : Shape := ⟨4, ![2, 1, 256, 512]⟩
abbrev S1x256x512 : Shape := ⟨3, ![1, 256, 512]⟩
abbrev S2x1x256x1024 : Shape := ⟨4, ![2, 1, 256, 1024]⟩
abbrev S1x256x1 : Shape := ⟨3, ![1, 256, 1]⟩
abbrev S256x512 : Shape := ⟨2, ![256, 512]⟩
abbrev S512x1 : Shape := ⟨2, ![512, 1]⟩
abbrev S256x1 : Shape := ⟨2, ![256, 1]⟩
abbrev S256x256 : Shape := ⟨2, ![256, 256]⟩
abbrev S1 : Shape := ⟨1, ![1]⟩
abbrev S1x1x1 : Shape := ⟨3, ![1, 1, 1]⟩
abbrev S1x1x256x512 : Shape := ⟨4, ![1, 1, 256, 512]⟩

abbrev nBuf : Space → Nat
  | .hbm => 24
  | .vmem => 24
  | .smem => 0
  | _ => 0

abbrev bufTy : (tb : Table) → Fin (tcTables nBuf tb) → BufTy
  | .hbm, ⟨0, _⟩ => ⟨S64x256x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S32x256x512, .f32⟩
  | .hbm, ⟨8, _⟩ => ⟨S2x32x256x512, .f32⟩
  | .hbm, ⟨9, _⟩ => ⟨S512x512, .f32⟩
  | .hbm, ⟨10, _⟩ => ⟨S512x512, .f32⟩
  | .hbm, ⟨11, _⟩ => ⟨S512x1024, .f32⟩
  | .hbm, ⟨12, _⟩ => ⟨S512x512, .f32⟩
  | .hbm, ⟨13, _⟩ => ⟨S512x512, .f32⟩
  | .hbm, ⟨14, _⟩ => ⟨S1x512, .f32⟩
  | .hbm, ⟨15, _⟩ => ⟨S1x512, .f32⟩
  | .hbm, ⟨16, _⟩ => ⟨S2x32x256x1024, .f32⟩
  | .hbm, ⟨17, _⟩ => ⟨S32x256x1, .f32⟩
  | .hbm, ⟨18, _⟩ => ⟨S32x256x1, .f32⟩
  | .hbm, ⟨19, _⟩ => ⟨S32x256x1, .f32⟩
  | .hbm, ⟨20, _⟩ => ⟨S32x256x1, .f32⟩
  | .hbm, ⟨21, _⟩ => ⟨S1x1, .f32⟩
  | .hbm, ⟨22, _⟩ => ⟨S1x1, .f32⟩
  | .hbm, ⟨23, _⟩ => ⟨S1x1, .f32⟩
  | .local _ .vmem, ⟨0, _⟩ => ⟨S2x1x256x512, .f32⟩
  | .local _ .vmem, ⟨1, _⟩ => ⟨S2x1x256x512, .f32⟩
  | .local _ .vmem, ⟨2, _⟩ => ⟨S1x256x512, .f32⟩
  | .local _ .vmem, ⟨3, _⟩ => ⟨S1x256x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x512, .f32⟩
  | .local _ .vmem, ⟨8, _⟩ => ⟨S512x512, .f32⟩
  | .local _ .vmem, ⟨9, _⟩ => ⟨S1x512, .f32⟩
  | .local _ .vmem, ⟨10, _⟩ => ⟨S1x512, .f32⟩
  | .local _ .vmem, ⟨11, _⟩ => ⟨S2x1x256x1024, .f32⟩
  | .local _ .vmem, ⟨12, _⟩ => ⟨S2x1x256x1024, .f32⟩
  | .local _ .vmem, ⟨13, _⟩ => ⟨S1x256x1, .f32⟩
  | .local _ .vmem, ⟨14, _⟩ => ⟨S1x256x1, .f32⟩
  | .local _ .vmem, ⟨15, _⟩ => ⟨S1x256x1, .f32⟩
  | .local _ .vmem, ⟨16, _⟩ => ⟨S1x256x1, .f32⟩
  | .local _ .vmem, ⟨17, _⟩ => ⟨S1x256x1, .f32⟩
  | .local _ .vmem, ⟨18, _⟩ => ⟨S1x256x1, .f32⟩
  | .local _ .vmem, ⟨19, _⟩ => ⟨S1x256x1, .f32⟩
  | .local _ .vmem, ⟨20, _⟩ => ⟨S1x256x1, .f32⟩
  | .local _ .vmem, ⟨21, _⟩ => ⟨S1x1, .f32⟩
  | .local _ .vmem, ⟨22, _⟩ => ⟨S1x1, .f32⟩
  | .local _ .vmem, ⟨23, _⟩ => ⟨S1x1, .f32⟩
  | _, _ => ⟨S64x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_v8_6 : Ref sig .tc := ⟨.hbm, 22, rfl⟩
abbrev main_v8_7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem15_0 : DmaSem sig := 22
abbrev cc0_sem16_0 : DmaSem sig := 23

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c32_i32 : BitVec 32 := 32#32
  let v16 : BitVec 32 := Scalar.addi c0_i32 c32_i32
  let c1_i32 : BitVec 32 := 1#32
  ⟨c0_i32, v16, c1_i32⟩
@[reducible] def k0_t2_loop : Scf.Loop 32 :=
  let c0_i32_14 : BitVec 32 := 0#32
  let c32_i32_15 : BitVec 32 := 32#32
  let v35 : BitVec 32 := Scalar.addi c0_i32_14 c32_i32_15
  let c1_i32_16 : BitVec 32 := 1#32
  ⟨c0_i32_14, v35, c1_i32_16⟩
@[reducible] def k0_t3_loop : Scf.Loop 32 :=
  let c0_i32_40 : BitVec 32 := 0#32
  let c16_i32 : BitVec 32 := 16#32
  let v83 : BitVec 32 := Scalar.addi c0_i32_40 c16_i32
  let c1_i32_41 : BitVec 32 := 1#32
  ⟨c0_i32_40, v83, c1_i32_41⟩
@[reducible] def k0_t4_loop : Scf.Loop 32 :=
  let c0_i32_46 : BitVec 32 := 0#32
  let c16_i32_47 : BitVec 32 := 16#32
  let v106 : BitVec 32 := Scalar.addi c0_i32_46 c16_i32_47
  let c1_i32_48 : BitVec 32 := 1#32
  ⟨c0_i32_46, v106, c1_i32_48⟩
@[reducible] def k0_t5_loop : Scf.Loop 32 :=
  let c0_i32_53 : BitVec 32 := 0#32
  let c16_i32_54 : BitVec 32 := 16#32
  let v129 : BitVec 32 := Scalar.addi c0_i32_53 c16_i32_54
  let c1_i32_55 : BitVec 32 := 1#32
  ⟨c0_i32_53, v129, c1_i32_55⟩
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== KernelIdeal.lean ====
variable {F : FTy → Type} [FloatOps F] [Named F]
def κ : String → Option EReal := fun
  | "inv_k_slot" => some ((1 / 33 : ℝ) : EReal)
  | "inv_k_t" => some ((1 / 17 : ℝ) : EReal)
  | "inv_sqrt_d" => some (((Real.sqrt 512)⁻¹ : ℝ) : EReal)
  | _ => none
-- ==== ReferenceIdeal.lean ====
abbrev S64x256x512 : Shape := ⟨3, ![64, 256, 512]⟩
abbrev S512x512 : Shape := ⟨2, ![512, 512]⟩
abbrev S512 : Shape := ⟨1, ![512]⟩
abbrev S32x256x512 : Shape := ⟨3, ![32, 256, 512]⟩
abbrev S_ : Shape := ⟨0, ![]⟩
abbrev S32x256x33 : Shape := ⟨3, ![32, 256, 33]⟩
abbrev S32x256 : Shape := ⟨2, ![32, 256]⟩
abbrev S32x17 : Shape := ⟨2, ![32, 17]⟩
abbrev S32x17x1 : Shape := ⟨3, ![32, 17, 1]⟩
abbrev S1 : Shape := ⟨1, ![1]⟩
abbrev S1x1x1 : Shape := ⟨3, ![1, 1, 1]⟩
abbrev S32x17x512 : Shape := ⟨3, ![32, 17, 512]⟩
abbrev S32x512 : Shape := ⟨2, ![32, 512]⟩
abbrev S32 : Shape := ⟨1, ![32]⟩
abbrev S32x1 : Shape := ⟨2, ![32, 1]⟩
abbrev S1x1x512 : Shape := ⟨3, ![1, 1, 512]⟩
abbrev S32x1x512 : Shape := ⟨3, ![32, 1, 512]⟩
abbrev S64x256x1024 : Shape := ⟨3, ![64, 256, 1024]⟩
abbrev S2x32x256x1024 : Shape := ⟨4, ![2, 32, 256, 1024]⟩
abbrev S1x1 : Shape := ⟨2, ![1, 1]⟩
abbrev S32x256x1 : Shape := ⟨3, ![32, 256, 1]⟩

abbrev nBuf : Space → Nat
  | .hbm => 380
  | .vmem => 0
  | .smem => 0
  | _ => 0

abbrev hbmTy0_0 (i : Nat) : BufTy := match i % 128 with
  | 0 => ⟨S64x256x512, .f32⟩
  | 1 => ⟨S512x512, .f32⟩
  | 2 => ⟨S512x512, .f32⟩
  | 3 => ⟨S512x512, .f32⟩
  | 4 => ⟨S512, .f32⟩
  | 5 => ⟨S512x512, .f32⟩
  | 6 => ⟨S512, .f32⟩
  | 7 => ⟨S32x256x512, .f32⟩
  | 8 => ⟨S32x256x512, .f32⟩
  | 9 => ⟨S32x256x512, .f32⟩
  | 10 => ⟨S32x256x512, .f32⟩
  | 11 => ⟨S_, .f32⟩
  | 12 => ⟨S_, .f32⟩
  | 13 => ⟨S_, .f32⟩
  | 14 => ⟨S32x256x512, .f32⟩
  | 15 => ⟨S32x256x512, .f32⟩
  | 16 => ⟨S32x256x512, .f32⟩
  | 17 => ⟨S32x256x512, .f32⟩
  | 18 => ⟨S_, .f32⟩
  | 19 => ⟨S32x256x512, .f32⟩
  | 20 => ⟨S32x256x512, .f32⟩
  | 21 => ⟨S_, .f32⟩
  | 22 => ⟨S32x256x512, .f32⟩
  | 23 => ⟨S32x256x512, .f32⟩
  | 24 => ⟨S32x256x512, .f32⟩
  | 25 => ⟨S32x256x33, .f32⟩
  | 26 => ⟨S32x256x33, .i32⟩
  | 27 => ⟨S_, .f32⟩
  | 28 => ⟨S32x256, .f32⟩
  | 29 => ⟨S_, .f32⟩
  | 30 => ⟨S32x256, .f32⟩
  | 31 => ⟨S32x256, .f32⟩
  | 32 => ⟨S32x256x512, .f32⟩
  | 33 => ⟨S_, .f32⟩
  | 34 => ⟨S_, .f32⟩
  | 35 => ⟨S_, .f32⟩
  | 36 => ⟨S32x256x512, .f32⟩
  | 37 => ⟨S32x256x512, .f32⟩
  | 38 => ⟨S32x256x512, .f32⟩
  | 39 => ⟨S32x256x512, .f32⟩
  | 40 => ⟨S_, .f32⟩
  | 41 => ⟨S32x256x512, .f32⟩
  | 42 => ⟨S32x256x512, .f32⟩
  | 43 => ⟨S_, .f32⟩
  | 44 => ⟨S32x256x512, .f32⟩
  | 45 => ⟨S32x256x512, .f32⟩
  | 46 => ⟨S32x256x512, .f32⟩
  | 47 => ⟨S32x256x33, .f32⟩
  | 48 => ⟨S32x256x33, .i32⟩
  | 49 => ⟨S_, .f32⟩
  | 50 => ⟨S32x256, .f32⟩
  | 51 => ⟨S_, .f32⟩
  | 52 => ⟨S32x256, .f32⟩
  | 53 => ⟨S32x256, .f32⟩
  | 54 => ⟨S32x256x512, .f32⟩
  | 55 => ⟨S_, .f32⟩
  | 56 => ⟨S_, .f32⟩
  | 57 => ⟨S_, .f32⟩
  | 58 => ⟨S32x256x512, .f32⟩
  | 59 => ⟨S32x256x512, .f32⟩
  | 60 => ⟨S32x256x512, .f32⟩
  | 61 => ⟨S32x256x512, .f32⟩
  | 62 => ⟨S_, .f32⟩
  | 63 => ⟨S32x256x512, .f32⟩
  | 64 => ⟨S32x256x512, .f32⟩
  | 65 => ⟨S_, .f32⟩
  | 66 => ⟨S32x256x512, .f32⟩
  | 67 => ⟨S32x256x512, .f32⟩
  | 68 => ⟨S32x256x512, .f32⟩
  | 69 => ⟨S32x256x33, .f32⟩
  | 70 => ⟨S32x256x33, .i32⟩
  | 71 => ⟨S_, .f32⟩
  | 72 => ⟨S32x256, .f32⟩
  | 73 => ⟨S_, .f32⟩
  | 74 => ⟨S32x256, .f32⟩
  | 75 => ⟨S32x256, .f32⟩
  | 76 => ⟨S32x256x512, .f32⟩
  | 77 => ⟨S_, .f32⟩
  | 78 => ⟨S_, .f32⟩
  | 79 => ⟨S_, .f32⟩
  | 80 => ⟨S32x256x512, .f32⟩
  | 81 => ⟨S32x256x512, .f32⟩
  | 82 => ⟨S32x256x512, .f32⟩
  | 83 => ⟨S32x256x512, .f32⟩
  | 84 => ⟨S_, .f32⟩
  | 85 => ⟨S32x256x512, .f32⟩
  | 86 => ⟨S32x256x512, .f32⟩
  | 87 => ⟨S_, .f32⟩
  | 88 => ⟨S32x256x512, .f32⟩
  | 89 => ⟨S32x256x512, .f32⟩
  | 90 => ⟨S32x256x512, .f32⟩
  | 91 => ⟨S32x256x33, .f32⟩
  | 92 => ⟨S32x256x33, .i32⟩
  | 93 => ⟨S_, .f32⟩
  | 94 => ⟨S32x256, .f32⟩
  | 95 => ⟨S_, .f32⟩
  | 96 => ⟨S32x256, .f32⟩
  | 97 => ⟨S32x256, .f32⟩
  | 98 => ⟨S32x17, .f32⟩
  | 99 => ⟨S32x17, .i32⟩
  | 100 => ⟨S32x17x1, .i32⟩
  | 101 => ⟨S_, .i32⟩
  | 102 => ⟨S32x17x1, .i32⟩
  | 103 => ⟨S32x17x1, .i1⟩
  | 104 => ⟨S_, .i32⟩
  | 105 => ⟨S32x17x1, .i32⟩
  | 106 => ⟨S32x17x1, .i32⟩
  | 107 => ⟨S32x17x1, .i32⟩
  | 108 => ⟨S1, .i32⟩
  | 109 => ⟨S_, .i32⟩
  | 110 => ⟨S32x17x1, .i32⟩
  | 111 => ⟨S32x17x1, .i1⟩
  | 112 => ⟨S1x1x1, .i32⟩
  | 113 => ⟨S32x17x1, .i32⟩
  | 114 => ⟨S32x17x1, .i1⟩
  | 115 => ⟨S32x17x1, .i1⟩
  | 116 => ⟨S_, .i1⟩
  | 117 => ⟨S32x17, .i1⟩
  | 118 => ⟨S32x17x512, .f32⟩
  | 119 => ⟨S32x17x512, .i1⟩
  | 120 => ⟨S_, .f32⟩
  | 121 => ⟨S32x17x512, .f32⟩
  | 122 => ⟨S32x17x512, .f32⟩
  | 123 => ⟨S_, .f32⟩
  | 124 => ⟨S32x512, .f32⟩
  | 125 => ⟨S_, .f32⟩
  | 126 => ⟨S32x512, .f32⟩
  | 127 => ⟨S32x512, .f32⟩
  | _ => ⟨S64x256x512, .f32⟩

abbrev hbmTy0_1 (i : Nat) : BufTy := match i % 128 with
  | 0 => ⟨S32x17, .f32⟩
  | 1 => ⟨S32x17, .i32⟩
  | 2 => ⟨S32x17x1, .i32⟩
  | 3 => ⟨S_, .i32⟩
  | 4 => ⟨S32x17x1, .i32⟩
  | 5 => ⟨S32x17x1, .i1⟩
  | 6 => ⟨S_, .i32⟩
  | 7 => ⟨S32x17x1, .i32⟩
  | 8 => ⟨S32x17x1, .i32⟩
  | 9 => ⟨S32x17x1, .i32⟩
  | 10 => ⟨S1, .i32⟩
  | 11 => ⟨S_, .i32⟩
  | 12 => ⟨S32x17x1, .i32⟩
  | 13 => ⟨S32x17x1, .i1⟩
  | 14 => ⟨S1x1x1, .i32⟩
  | 15 => ⟨S32x17x1, .i32⟩
  | 16 => ⟨S32x17x1, .i1⟩
  | 17 => ⟨S32x17x1, .i1⟩
  | 18 => ⟨S_, .i1⟩
  | 19 => ⟨S32x17, .i1⟩
  | 20 => ⟨S32x17x512, .f32⟩
  | 21 => ⟨S32x17x512, .i1⟩
  | 22 => ⟨S_, .f32⟩
  | 23 => ⟨S32x17x512, .f32⟩
  | 24 => ⟨S32x17x512, .f32⟩
  | 25 => ⟨S_, .f32⟩
  | 26 => ⟨S32x512, .f32⟩
  | 27 => ⟨S_, .f32⟩
  | 28 => ⟨S32x512, .f32⟩
  | 29 => ⟨S32x512, .f32⟩
  | 30 => ⟨S32x17, .f32⟩
  | 31 => ⟨S32x17, .i32⟩
  | 32 => ⟨S32x17x1, .i32⟩
  | 33 => ⟨S_, .i32⟩
  | 34 => ⟨S32x17x1, .i32⟩
  | 35 => ⟨S32x17x1, .i1⟩
  | 36 => ⟨S_, .i32⟩
  | 37 => ⟨S32x17x1, .i32⟩
  | 38 => ⟨S32x17x1, .i32⟩
  | 39 => ⟨S32x17x1, .i32⟩
  | 40 => ⟨S1, .i32⟩
  | 41 => ⟨S_, .i32⟩
  | 42 => ⟨S32x17x1, .i32⟩
  | 43 => ⟨S32x17x1, .i1⟩
  | 44 => ⟨S1x1x1, .i32⟩
  | 45 => ⟨S32x17x1, .i32⟩
  | 46 => ⟨S32x17x1, .i1⟩
  | 47 => ⟨S32x17x1, .i1⟩
  | 48 => ⟨S_, .i1⟩
  | 49 => ⟨S32x17, .i1⟩
  | 50 => ⟨S32x17x512, .f32⟩
  | 51 => ⟨S32x17x512, .i1⟩
  | 52 => ⟨S_, .f32⟩
  | 53 => ⟨S32x17x512, .f32⟩
  | 54 => ⟨S32x17x512, .f32⟩
  | 55 => ⟨S_, .f32⟩
  | 56 => ⟨S32x512, .f32⟩
  | 57 => ⟨S_, .f32⟩
  | 58 => ⟨S32x512, .f32⟩
  | 59 => ⟨S32x512, .f32⟩
  | 60 => ⟨S32x512, .f32⟩
  | 61 => ⟨S_, .f32⟩
  | 62 => ⟨S32, .f32⟩
  | 63 => ⟨S32x1, .f32⟩
  | 64 => ⟨S32x1, .f32⟩
  | 65 => ⟨S32x512, .f32⟩
  | 66 => ⟨S32x512, .f32⟩
  | 67 => ⟨S32x512, .f32⟩
  | 68 => ⟨S_, .f32⟩
  | 69 => ⟨S32, .f32⟩
  | 70 => ⟨S32x1, .f32⟩
  | 71 => ⟨S32x1, .f32⟩
  | 72 => ⟨S32x512, .f32⟩
  | 73 => ⟨S32x512, .f32⟩
  | 74 => ⟨S32x512, .f32⟩
  | 75 => ⟨S_, .f32⟩
  | 76 => ⟨S32, .f32⟩
  | 77 => ⟨S32x1, .f32⟩
  | 78 => ⟨S32x1, .f32⟩
  | 79 => ⟨S32x512, .f32⟩
  | 80 => ⟨S32x512, .f32⟩
  | 81 => ⟨S32x512, .f32⟩
  | 82 => ⟨S_, .f32⟩
  | 83 => ⟨S32x512, .f32⟩
  | 84 => ⟨S32x512, .f32⟩
  | 85 => ⟨S32x512, .f32⟩
  | 86 => ⟨S_, .f32⟩
  | 87 => ⟨S32, .f32⟩
  | 88 => ⟨S32, .f32⟩
  | 89 => ⟨S32x512, .f32⟩
  | 90 => ⟨S_, .f32⟩
  | 91 => ⟨S32x512, .f32⟩
  | 92 => ⟨S32x512, .f32⟩
  | 93 => ⟨S32x512, .f32⟩
  | 94 => ⟨S_, .f32⟩
  | 95 => ⟨S32, .f32⟩
  | 96 => ⟨S32, .f32⟩
  | 97 => ⟨S32, .f32⟩
  | 98 => ⟨S_, .f32⟩
  | 99 => ⟨S32, .f32⟩
  | 100 => ⟨S32, .f32⟩
  | 101 => ⟨S_, .f32⟩
  | 102 => ⟨S32, .f32⟩
  | 103 => ⟨S32, .f32⟩
  | 104 => ⟨S_, .f32⟩
  | 105 => ⟨S_, .f32⟩
  | 106 => ⟨S_, .f32⟩
  | 107 => ⟨S_, .f32⟩
  | 108 => ⟨S512x512, .f32⟩
  | 109 => ⟨S32x256x512, .f32⟩
  | 110 => ⟨S1x1x512, .f32⟩
  | 111 => ⟨S32x256x512, .f32⟩
  | 112 => ⟨S32x256x512, .f32⟩
  | 113 => ⟨S512x512, .f32⟩
  | 114 => ⟨S32x256x512, .f32⟩
  | 115 => ⟨S1x1x512, .f32⟩
  | 116 => ⟨S32x256x512, .f32⟩
  | 117 => ⟨S32x256x512, .f32⟩
  | 118 => ⟨S32x256x512, .f32⟩
  | 119 => ⟨S32x256x512, .f32⟩
  | 120 => ⟨S32x256x512, .f32⟩
  | 121 => ⟨S32x256x512, .f32⟩
  | 122 => ⟨S32x17x1, .i32⟩
  | 123 => ⟨S_, .i32⟩
  | 124 => ⟨S32x17x1, .i32⟩
  | 125 => ⟨S32x17x1, .i1⟩
  | 126 => ⟨S_, .i32⟩
  | 127 => ⟨S32x17x1, .i32⟩
  | _ => ⟨S64x256x512, .f32⟩

abbrev hbmTy0_2 (i : Nat) : BufTy := match i % 128 with
  | 0 => ⟨S32x17x1, .i32⟩
  | 1 => ⟨S32x17x1, .i32⟩
  | 2 => ⟨S1, .i32⟩
  | 3 => ⟨S_, .i32⟩
  | 4 => ⟨S32x17x1, .i32⟩
  | 5 => ⟨S32x17x1, .i1⟩
  | 6 => ⟨S1x1x1, .i32⟩
  | 7 => ⟨S32x17x1, .i32⟩
  | 8 => ⟨S32x17x1, .i1⟩
  | 9 => ⟨S32x17x1, .i1⟩
  | 10 => ⟨S_, .i1⟩
  | 11 => ⟨S32x17, .i1⟩
  | 12 => ⟨S32x17x512, .f32⟩
  | 13 => ⟨S32x17x512, .i1⟩
  | 14 => ⟨S_, .f32⟩
  | 15 => ⟨S32x17x512, .f32⟩
  | 16 => ⟨S32x17x512, .f32⟩
  | 17 => ⟨S_, .f32⟩
  | 18 => ⟨S32x512, .f32⟩
  | 19 => ⟨S_, .f32⟩
  | 20 => ⟨S32x512, .f32⟩
  | 21 => ⟨S32x512, .f32⟩
  | 22 => ⟨S32x1x512, .f32⟩
  | 23 => ⟨S_, .f32⟩
  | 24 => ⟨S32x512, .f32⟩
  | 25 => ⟨S_, .f32⟩
  | 26 => ⟨S32x512, .f32⟩
  | 27 => ⟨S32x512, .f32⟩
  | 28 => ⟨S512x512, .f32⟩
  | 29 => ⟨S32x256x512, .f32⟩
  | 30 => ⟨S1x1x512, .f32⟩
  | 31 => ⟨S32x256x512, .f32⟩
  | 32 => ⟨S32x256x512, .f32⟩
  | 33 => ⟨S32x17x1, .i32⟩
  | 34 => ⟨S_, .i32⟩
  | 35 => ⟨S32x17x1, .i32⟩
  | 36 => ⟨S32x17x1, .i1⟩
  | 37 => ⟨S_, .i32⟩
  | 38 => ⟨S32x17x1, .i32⟩
  | 39 => ⟨S32x17x1, .i32⟩
  | 40 => ⟨S32x17x1, .i32⟩
  | 41 => ⟨S1, .i32⟩
  | 42 => ⟨S_, .i32⟩
  | 43 => ⟨S32x17x1, .i32⟩
  | 44 => ⟨S32x17x1, .i1⟩
  | 45 => ⟨S1x1x1, .i32⟩
  | 46 => ⟨S32x17x1, .i32⟩
  | 47 => ⟨S32x17x1, .i1⟩
  | 48 => ⟨S32x17x1, .i1⟩
  | 49 => ⟨S_, .i1⟩
  | 50 => ⟨S32x17, .i1⟩
  | 51 => ⟨S32x17x512, .f32⟩
  | 52 => ⟨S32x17x512, .i1⟩
  | 53 => ⟨S_, .f32⟩
  | 54 => ⟨S32x17x512, .f32⟩
  | 55 => ⟨S32x17x512, .f32⟩
  | 56 => ⟨S_, .f32⟩
  | 57 => ⟨S32x512, .f32⟩
  | 58 => ⟨S_, .f32⟩
  | 59 => ⟨S32x512, .f32⟩
  | 60 => ⟨S32x512, .f32⟩
  | 61 => ⟨S32x1x512, .f32⟩
  | 62 => ⟨S_, .f32⟩
  | 63 => ⟨S32x512, .f32⟩
  | 64 => ⟨S_, .f32⟩
  | 65 => ⟨S32x512, .f32⟩
  | 66 => ⟨S32x512, .f32⟩
  | 67 => ⟨S_, .f32⟩
  | 68 => ⟨S32x256x512, .f32⟩
  | 69 => ⟨S32x256x512, .f32⟩
  | 70 => ⟨S32x256x512, .f32⟩
  | 71 => ⟨S32x256x512, .f32⟩
  | 72 => ⟨S32x256x512, .f32⟩
  | 73 => ⟨S32x256x512, .f32⟩
  | 74 => ⟨S_, .f32⟩
  | 75 => ⟨S32x512, .f32⟩
  | 76 => ⟨S_, .f32⟩
  | 77 => ⟨S32x512, .f32⟩
  | 78 => ⟨S32x512, .f32⟩
  | 79 => ⟨S_, .f32⟩
  | 80 => ⟨S_, .f32⟩
  | 81 => ⟨S_, .f32⟩
  | 82 => ⟨S_, .f32⟩
  | 83 => ⟨S512x512, .f32⟩
  | 84 => ⟨S32x256x512, .f32⟩
  | 85 => ⟨S1x1x512, .f32⟩
  | 86 => ⟨S32x256x512, .f32⟩
  | 87 => ⟨S32x256x512, .f32⟩
  | 88 => ⟨S512x512, .f32⟩
  | 89 => ⟨S32x256x512, .f32⟩
  | 90 => ⟨S1x1x512, .f32⟩
  | 91 => ⟨S32x256x512, .f32⟩
  | 92 => ⟨S32x256x512, .f32⟩
  | 93 => ⟨S32x512, .f32⟩
  | 94 => ⟨S_, .f32⟩
  | 95 => ⟨S32, .f32⟩
  | 96 => ⟨S32, .f32⟩
  | 97 => ⟨S_, .f32⟩
  | 98 => ⟨S32, .f32⟩
  | 99 => ⟨S32, .f32⟩
  | 100 => ⟨S32x512, .f32⟩
  | 101 => ⟨S_, .f32⟩
  | 102 => ⟨S32, .f32⟩
  | 103 => ⟨S32, .f32⟩
  | 104 => ⟨S32, .f32⟩
  | 105 => ⟨S_, .f32⟩
  | 106 => ⟨S32, .f32⟩
  | 107 => ⟨S32, .f32⟩
  | 108 => ⟨S_, .f32⟩
  | 109 => ⟨S_, .f32⟩
  | 110 => ⟨S_, .f32⟩
  | 111 => ⟨S_, .f32⟩
  | 112 => ⟨S32x256x512, .f32⟩
  | 113 => ⟨S32x256x512, .f32⟩
  | 114 => ⟨S64x256x512, .f32⟩
  | 115 => ⟨S64x256x1024, .f32⟩
  | 116 => ⟨S2x32x256x1024, .f32⟩
  | 117 => ⟨S1x1, .f32⟩
  | 118 => ⟨S1x1, .f32⟩
  | 119 => ⟨S1x1, .f32⟩
  | 120 => ⟨S32x256x1, .f32⟩
  | 121 => ⟨S32x256x1, .f32⟩
  | 122 => ⟨S32x256x1, .f32⟩
  | 123 => ⟨S32x256x1, .f32⟩
  | _ => ⟨S64x256x512, .f32⟩

abbrev hbmTy (i : Nat) : BufTy := match i / 128 with
  | 0 => hbmTy0_0 i
  | 1 => hbmTy0_1 i
  | 2 => hbmTy0_2 i
  | _ => ⟨S64x256x512, .f32⟩

abbrev bufTy : (tb : Table) → Fin (tcTables nBuf tb) → BufTy
  | .hbm, ⟨i, _⟩ => hbmTy i
  | _, _ => ⟨S64x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_values : Ref sig .tc := ⟨.hbm, 25, rfl⟩
abbrev main_indices : Ref sig .tc := ⟨.hbm, 26, rfl⟩
abbrev main_cst_2 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_values_7 : Ref sig .tc := ⟨.hbm, 47, rfl⟩
abbrev main_indices_8 : Ref sig .tc := ⟨.hbm, 48, rfl⟩
abbrev main_cst_9 : Ref sig .tc := ⟨.hbm, 49, rfl⟩
abbrev main_v29 : Ref sig .tc := ⟨.hbm, 50, rfl⟩
abbrev main_cst_10 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_11 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_12 : Ref sig .tc := ⟨.hbm, 62, rfl⟩
abbrev main_v39 : Ref sig .tc := ⟨.hbm, 63, rfl⟩
abbrev main_v40 : Ref sig .tc := ⟨.hbm, 64, rfl⟩
abbrev main_cst_13 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_values_14 : Ref sig .tc := ⟨.hbm, 69, rfl⟩
abbrev main_indices_15 : Ref sig .tc := ⟨.hbm, 70, rfl⟩
abbrev main_cst_16 : Ref sig .tc := ⟨.hbm, 71, rfl⟩
abbrev main_v44 : Ref sig .tc := ⟨.hbm, 72, rfl⟩
abbrev main_cst_17 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_18 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_19 : Ref sig .tc := ⟨.hbm, 84, rfl⟩
abbrev main_v54 : Ref sig .tc := ⟨.hbm, 85, rfl⟩
abbrev main_v55 : Ref sig .tc := ⟨.hbm, 86, rfl⟩
abbrev main_cst_20 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_values_21 : Ref sig .tc := ⟨.hbm, 91, rfl⟩
abbrev main_indices_22 : Ref sig .tc := ⟨.hbm, 92, rfl⟩
abbrev main_cst_23 : Ref sig .tc := ⟨.hbm, 93, rfl⟩
abbrev main_v59 : Ref sig .tc := ⟨.hbm, 94, rfl⟩
abbrev main_cst_24 : Ref sig .tc := ⟨.hbm, 95, rfl⟩
abbrev main_v60 : Ref sig .tc := ⟨.hbm, 96, rfl⟩
abbrev main_v61 : Ref sig .tc := ⟨.hbm, 97, rfl⟩
abbrev main_values_25 : Ref sig .tc := ⟨.hbm, 98, rfl⟩
abbrev main_indices_26 : Ref sig .tc := ⟨.hbm, 99, rfl⟩
abbrev main_v62 : Ref sig .tc := ⟨.hbm, 100, rfl⟩
abbrev main_call0_c : Ref sig .tc := ⟨.hbm, 101, rfl⟩
abbrev main_call0_v0 : Ref sig .tc := ⟨.hbm, 102, rfl⟩
abbrev main_call0_v1 : Ref sig .tc := ⟨.hbm, 103, rfl⟩
abbrev main_call0_c_0 : Ref sig .tc := ⟨.hbm, 104, rfl⟩
abbrev main_call0_v2 : Ref sig .tc := ⟨.hbm, 105, rfl⟩
abbrev main_call0_v3 : Ref sig .tc := ⟨.hbm, 106, rfl⟩
abbrev main_call0_v4 : Ref sig .tc := ⟨.hbm, 107, rfl⟩
abbrev main_call0_c_1 : Ref sig .tc := ⟨.hbm, 108, rfl⟩
abbrev main_call0_c_2 : Ref sig .tc := ⟨.hbm, 109, rfl⟩
abbrev main_call0_v5 : Ref sig .tc := ⟨.hbm, 110, rfl⟩
abbrev main_call0_v6 : Ref sig .tc := ⟨.hbm, 111, rfl⟩
abbrev main_call0_v7 : Ref sig .tc := ⟨.hbm, 112, rfl⟩
abbrev main_call0_v8 : Ref sig .tc := ⟨.hbm, 113, rfl⟩
abbrev main_call0_v9 : Ref sig .tc := ⟨.hbm, 114, rfl⟩
abbrev main_call0_v10 : Ref sig .tc := ⟨.hbm, 115, rfl⟩
abbrev main_call0_c_3 : Ref sig .tc := ⟨.hbm, 116, rfl⟩
abbrev main_call0_v11 : Ref sig .tc := ⟨.hbm, 117, rfl⟩
abbrev main_call0_v12 : Ref sig .tc := ⟨.hbm, 118, rfl⟩
abbrev main_call0_v13 : Ref sig .tc := ⟨.hbm, 119, rfl⟩
abbrev main_call0_cst : Ref sig .tc := ⟨.hbm, 120, rfl⟩
abbrev main_call0_v14 : Ref sig .tc := ⟨.hbm, 121, rfl⟩
abbrev main_v63 : Ref sig .tc := ⟨.hbm, 122, rfl⟩
abbrev main_cst_27 : Ref sig .tc := ⟨.hbm, 123, rfl⟩
abbrev main_v64 : Ref sig .tc := ⟨.hbm, 124, rfl⟩
abbrev main_cst_28 : Ref sig .tc := ⟨.hbm, 125, rfl⟩
abbrev main_v65 : Ref sig .tc := ⟨.hbm, 126, rfl⟩
abbrev main_v66 : Ref sig .tc := ⟨.hbm, 127, rfl⟩
abbrev main_values_29 : Ref sig .tc := ⟨.hbm, 128, rfl⟩
abbrev main_indices_30 : Ref sig .tc := ⟨.hbm, 129, rfl⟩
abbrev main_v67 : Ref sig .tc := ⟨.hbm, 130, rfl⟩
abbrev main_call1_c : Ref sig .tc := ⟨.hbm, 131, rfl⟩
abbrev main_call1_v0 : Ref sig .tc := ⟨.hbm, 132, rfl⟩
abbrev main_call1_v1 : Ref sig .tc := ⟨.hbm, 133, rfl⟩
abbrev main_call1_c_0 : Ref sig .tc := ⟨.hbm, 134, rfl⟩
abbrev main_call1_v2 : Ref sig .tc := ⟨.hbm, 135, rfl⟩
abbrev main_call1_v3 : Ref sig .tc := ⟨.hbm, 136, rfl⟩
abbrev main_call1_v4 : Ref sig .tc := ⟨.hbm, 137, rfl⟩
abbrev main_call1_c_1 : Ref sig .tc := ⟨.hbm, 138, rfl⟩
abbrev main_call1_c_2 : Ref sig .tc := ⟨.hbm, 139, rfl⟩
abbrev main_call1_v5 : Ref sig .tc := ⟨.hbm, 140, rfl⟩
abbrev main_call1_v6 : Ref sig .tc := ⟨.hbm, 141, rfl⟩
abbrev main_call1_v7 : Ref sig .tc := ⟨.hbm, 142, rfl⟩
abbrev main_call1_v8 : Ref sig .tc := ⟨.hbm, 143, rfl⟩
abbrev main_call1_v9 : Ref sig .tc := ⟨.hbm, 144, rfl⟩
abbrev main_call1_v10 : Ref sig .tc := ⟨.hbm, 145, rfl⟩
abbrev main_call1_c_3 : Ref sig .tc := ⟨.hbm, 146, rfl⟩
abbrev main_call1_v11 : Ref sig .tc := ⟨.hbm, 147, rfl⟩
abbrev main_call1_v12 : Ref sig .tc := ⟨.hbm, 148, rfl⟩
abbrev main_call1_v13 : Ref sig .tc := ⟨.hbm, 149, rfl⟩
abbrev main_call1_cst : Ref sig .tc := ⟨.hbm, 150, rfl⟩
abbrev main_call1_v14 : Ref sig .tc := ⟨.hbm, 151, rfl⟩
abbrev main_v68 : Ref sig .tc := ⟨.hbm, 152, rfl⟩
abbrev main_cst_31 : Ref sig .tc := ⟨.hbm, 153, rfl⟩
abbrev main_v69 : Ref sig .tc := ⟨.hbm, 154, rfl⟩
abbrev main_cst_32 : Ref sig .tc := ⟨.hbm, 155, rfl⟩
abbrev main_v70 : Ref sig .tc := ⟨.hbm, 156, rfl⟩
abbrev main_v71 : Ref sig .tc := ⟨.hbm, 157, rfl⟩
abbrev main_values_33 : Ref sig .tc := ⟨.hbm, 158, rfl⟩
abbrev main_indices_34 : Ref sig .tc := ⟨.hbm, 159, rfl⟩
abbrev main_v72 : Ref sig .tc := ⟨.hbm, 160, rfl⟩
abbrev main_call2_c : Ref sig .tc := ⟨.hbm, 161, rfl⟩
abbrev main_call2_v0 : Ref sig .tc := ⟨.hbm, 162, rfl⟩
abbrev main_call2_v1 : Ref sig .tc := ⟨.hbm, 163, rfl⟩
abbrev main_call2_c_0 : Ref sig .tc := ⟨.hbm, 164, rfl⟩
abbrev main_call2_v2 : Ref sig .tc := ⟨.hbm, 165, rfl⟩
abbrev main_call2_v3 : Ref sig .tc := ⟨.hbm, 166, rfl⟩
abbrev main_call2_v4 : Ref sig .tc := ⟨.hbm, 167, rfl⟩
abbrev main_call2_c_1 : Ref sig .tc := ⟨.hbm, 168, rfl⟩
abbrev main_call2_c_2 : Ref sig .tc := ⟨.hbm, 169, rfl⟩
abbrev main_call2_v5 : Ref sig .tc := ⟨.hbm, 170, rfl⟩
abbrev main_call2_v6 : Ref sig .tc := ⟨.hbm, 171, rfl⟩
abbrev main_call2_v7 : Ref sig .tc := ⟨.hbm, 172, rfl⟩
abbrev main_call2_v8 : Ref sig .tc := ⟨.hbm, 173, rfl⟩
abbrev main_call2_v9 : Ref sig .tc := ⟨.hbm, 174, rfl⟩
abbrev main_call2_v10 : Ref sig .tc := ⟨.hbm, 175, rfl⟩
abbrev main_call2_c_3 : Ref sig .tc := ⟨.hbm, 176, rfl⟩
abbrev main_call2_v11 : Ref sig .tc := ⟨.hbm, 177, rfl⟩
abbrev main_call2_v12 : Ref sig .tc := ⟨.hbm, 178, rfl⟩
abbrev main_call2_v13 : Ref sig .tc := ⟨.hbm, 179, rfl⟩
abbrev main_call2_cst : Ref sig .tc := ⟨.hbm, 180, rfl⟩
abbrev main_call2_v14 : Ref sig .tc := ⟨.hbm, 181, rfl⟩
abbrev main_v73 : Ref sig .tc := ⟨.hbm, 182, rfl⟩
abbrev main_cst_35 : Ref sig .tc := ⟨.hbm, 183, rfl⟩
abbrev main_v74 : Ref sig .tc := ⟨.hbm, 184, rfl⟩
abbrev main_cst_36 : Ref sig .tc := ⟨.hbm, 185, rfl⟩
abbrev main_v75 : Ref sig .tc := ⟨.hbm, 186, rfl⟩
abbrev main_v76 : Ref sig .tc := ⟨.hbm, 187, rfl⟩
abbrev main_call3_v0 : Ref sig .tc := ⟨.hbm, 188, rfl⟩
abbrev main_call3_cst : Ref sig .tc := ⟨.hbm, 189, rfl⟩
abbrev main_call3_v1 : Ref sig .tc := ⟨.hbm, 190, rfl⟩
abbrev main_call3_v2 : Ref sig .tc := ⟨.hbm, 191, rfl⟩
abbrev main_v77 : Ref sig .tc := ⟨.hbm, 192, rfl⟩
abbrev main_v78 : Ref sig .tc := ⟨.hbm, 193, rfl⟩
abbrev main_v79 : Ref sig .tc := ⟨.hbm, 194, rfl⟩
abbrev main_call4_v0 : Ref sig .tc := ⟨.hbm, 195, rfl⟩
abbrev main_call4_cst : Ref sig .tc := ⟨.hbm, 196, rfl⟩
abbrev main_call4_v1 : Ref sig .tc := ⟨.hbm, 197, rfl⟩
abbrev main_call4_v2 : Ref sig .tc := ⟨.hbm, 198, rfl⟩
abbrev main_v80 : Ref sig .tc := ⟨.hbm, 199, rfl⟩
abbrev main_v81 : Ref sig .tc := ⟨.hbm, 200, rfl⟩
abbrev main_v82 : Ref sig .tc := ⟨.hbm, 201, rfl⟩
abbrev main_call5_v0 : Ref sig .tc := ⟨.hbm, 202, rfl⟩
abbrev main_call5_cst : Ref sig .tc := ⟨.hbm, 203, rfl⟩
abbrev main_call5_v1 : Ref sig .tc := ⟨.hbm, 204, rfl⟩
abbrev main_call5_v2 : Ref sig .tc := ⟨.hbm, 205, rfl⟩
abbrev main_v83 : Ref sig .tc := ⟨.hbm, 206, rfl⟩
abbrev main_v84 : Ref sig .tc := ⟨.hbm, 207, rfl⟩
abbrev main_v85 : Ref sig .tc := ⟨.hbm, 208, rfl⟩
abbrev main_v86 : Ref sig .tc := ⟨.hbm, 209, rfl⟩
abbrev main_cst_37 : Ref sig .tc := ⟨.hbm, 210, rfl⟩
abbrev main_v87 : Ref sig .tc := ⟨.hbm, 211, rfl⟩
abbrev main_v88 : Ref sig .tc := ⟨.hbm, 212, rfl⟩
abbrev main_call6_v0 : Ref sig .tc := ⟨.hbm, 213, rfl⟩
abbrev main_call6_cst : Ref sig .tc := ⟨.hbm, 214, rfl⟩
abbrev main_call6_v1 : Ref sig .tc := ⟨.hbm, 215, rfl⟩
abbrev main_v89 : Ref sig .tc := ⟨.hbm, 216, rfl⟩
abbrev main_v90 : Ref sig .tc := ⟨.hbm, 217, rfl⟩
abbrev main_cst_38 : Ref sig .tc := ⟨.hbm, 218, rfl⟩
abbrev main_v91 : Ref sig .tc := ⟨.hbm, 219, rfl⟩
abbrev main_v92 : Ref sig .tc := ⟨.hbm, 220, rfl⟩
abbrev main_call7_v0 : Ref sig .tc := ⟨.hbm, 221, rfl⟩
abbrev main_call7_cst : Ref sig .tc := ⟨.hbm, 222, rfl⟩
abbrev main_call7_v1 : Ref sig .tc := ⟨.hbm, 223, rfl⟩
abbrev main_v93 : Ref sig .tc := ⟨.hbm, 224, rfl⟩
abbrev main_v94 : Ref sig .tc := ⟨.hbm, 225, rfl⟩
abbrev main_cst_39 : Ref sig .tc := ⟨.hbm, 226, rfl⟩
abbrev main_v95 : Ref sig .tc := ⟨.hbm, 227, rfl⟩
abbrev main_v96 : Ref sig .tc := ⟨.hbm, 228, rfl⟩
abbrev main_cst_40 : Ref sig .tc := ⟨.hbm, 229, rfl⟩
abbrev main_v97 : Ref sig .tc := ⟨.hbm, 230, rfl⟩
abbrev main_v98 : Ref sig .tc := ⟨.hbm, 231, rfl⟩
abbrev main_cst_41 : Ref sig .tc := ⟨.hbm, 232, rfl⟩
abbrev main_v99 : Ref sig .tc := ⟨.hbm, 233, rfl⟩
abbrev main_cst_42 : Ref sig .tc := ⟨.hbm, 234, rfl⟩
abbrev main_v100 : Ref sig .tc := ⟨.hbm, 235, rfl⟩
abbrev main_v101 : Ref sig .tc := ⟨.hbm, 236, rfl⟩
abbrev main_v102 : Ref sig .tc := ⟨.hbm, 237, rfl⟩
abbrev main_v103 : Ref sig .tc := ⟨.hbm, 238, rfl⟩
abbrev main_v104 : Ref sig .tc := ⟨.hbm, 239, rfl⟩
abbrev main_v105 : Ref sig .tc := ⟨.hbm, 240, rfl⟩
abbrev main_v106 : Ref sig .tc := ⟨.hbm, 241, rfl⟩
abbrev main_v107 : Ref sig .tc := ⟨.hbm, 242, rfl⟩
abbrev main_v108 : Ref sig .tc := ⟨.hbm, 243, rfl⟩
abbrev main_v109 : Ref sig .tc := ⟨.hbm, 244, rfl⟩
abbrev main_v110 : Ref sig .tc := ⟨.hbm, 245, rfl⟩
abbrev main_v111 : Ref sig .tc := ⟨.hbm, 246, rfl⟩
abbrev main_v112 : Ref sig .tc := ⟨.hbm, 247, rfl⟩
abbrev main_v113 : Ref sig .tc := ⟨.hbm, 248, rfl⟩
abbrev main_v114 : Ref sig .tc := ⟨.hbm, 249, rfl⟩
abbrev main_v115 : Ref sig .tc := ⟨.hbm, 250, rfl⟩
abbrev main_call8_c : Ref sig .tc := ⟨.hbm, 251, rfl⟩
abbrev main_call8_v0 : Ref sig .tc := ⟨.hbm, 252, rfl⟩
abbrev main_call8_v1 : Ref sig .tc := ⟨.hbm, 253, rfl⟩
abbrev main_call8_c_0 : Ref sig .tc := ⟨.hbm, 254, rfl⟩
abbrev main_call8_v2 : Ref sig .tc := ⟨.hbm, 255, rfl⟩
abbrev main_call8_v3 : Ref sig .tc := ⟨.hbm, 256, rfl⟩
abbrev main_call8_v4 : Ref sig .tc := ⟨.hbm, 257, rfl⟩
abbrev main_call8_c_1 : Ref sig .tc := ⟨.hbm, 258, rfl⟩
abbrev main_call8_c_2 : Ref sig .tc := ⟨.hbm, 259, rfl⟩
abbrev main_call8_v5 : Ref sig .tc := ⟨.hbm, 260, rfl⟩
abbrev main_call8_v6 : Ref sig .tc := ⟨.hbm, 261, rfl⟩
abbrev main_call8_v7 : Ref sig .tc := ⟨.hbm, 262, rfl⟩
abbrev main_call8_v8 : Ref sig .tc := ⟨.hbm, 263, rfl⟩
abbrev main_call8_v9 : Ref sig .tc := ⟨.hbm, 264, rfl⟩
abbrev main_call8_v10 : Ref sig .tc := ⟨.hbm, 265, rfl⟩
abbrev main_call8_c_3 : Ref sig .tc := ⟨.hbm, 266, rfl⟩
abbrev main_call8_v11 : Ref sig .tc := ⟨.hbm, 267, rfl⟩
abbrev main_call8_v12 : Ref sig .tc := ⟨.hbm, 268, rfl⟩
abbrev main_call8_v13 : Ref sig .tc := ⟨.hbm, 269, rfl⟩
abbrev main_call8_cst : Ref sig .tc := ⟨.hbm, 270, rfl⟩
abbrev main_call8_v14 : Ref sig .tc := ⟨.hbm, 271, rfl⟩
abbrev main_v116 : Ref sig .tc := ⟨.hbm, 272, rfl⟩
abbrev main_cst_43 : Ref sig .tc := ⟨.hbm, 273, rfl⟩
abbrev main_v117 : Ref sig .tc := ⟨.hbm, 274, rfl⟩
abbrev main_cst_44 : Ref sig .tc := ⟨.hbm, 275, rfl⟩
abbrev main_v118 : Ref sig .tc := ⟨.hbm, 276, rfl⟩
abbrev main_v119 : Ref sig .tc := ⟨.hbm, 277, rfl⟩
abbrev main_v120 : Ref sig .tc := ⟨.hbm, 278, rfl⟩
abbrev main_cst_45 : Ref sig .tc := ⟨.hbm, 279, rfl⟩
abbrev main_v121 : Ref sig .tc := ⟨.hbm, 280, rfl⟩
abbrev main_cst_46 : Ref sig .tc := ⟨.hbm, 281, rfl⟩
abbrev main_v122 : Ref sig .tc := ⟨.hbm, 282, rfl⟩
abbrev main_v123 : Ref sig .tc := ⟨.hbm, 283, rfl⟩
abbrev main_v124 : Ref sig .tc := ⟨.hbm, 284, rfl⟩
abbrev main_v125 : Ref sig .tc := ⟨.hbm, 285, rfl⟩
abbrev main_v126 : Ref sig .tc := ⟨.hbm, 286, rfl⟩
abbrev main_v127 : Ref sig .tc := ⟨.hbm, 287, rfl⟩
abbrev main_v128 : Ref sig .tc := ⟨.hbm, 288, rfl⟩
abbrev main_v129 : Ref sig .tc := ⟨.hbm, 289, rfl⟩
abbrev main_call9_c : Ref sig .tc := ⟨.hbm, 290, rfl⟩
abbrev main_call9_v0 : Ref sig .tc := ⟨.hbm, 291, rfl⟩
abbrev main_call9_v1 : Ref sig .tc := ⟨.hbm, 292, rfl⟩
abbrev main_call9_c_0 : Ref sig .tc := ⟨.hbm, 293, rfl⟩
abbrev main_call9_v2 : Ref sig .tc := ⟨.hbm, 294, rfl⟩
abbrev main_call9_v3 : Ref sig .tc := ⟨.hbm, 295, rfl⟩
abbrev main_call9_v4 : Ref sig .tc := ⟨.hbm, 296, rfl⟩
abbrev main_call9_c_1 : Ref sig .tc := ⟨.hbm, 297, rfl⟩
abbrev main_call9_c_2 : Ref sig .tc := ⟨.hbm, 298, rfl⟩
abbrev main_call9_v5 : Ref sig .tc := ⟨.hbm, 299, rfl⟩
abbrev main_call9_v6 : Ref sig .tc := ⟨.hbm, 300, rfl⟩
abbrev main_call9_v7 : Ref sig .tc := ⟨.hbm, 301, rfl⟩
abbrev main_call9_v8 : Ref sig .tc := ⟨.hbm, 302, rfl⟩
abbrev main_call9_v9 : Ref sig .tc := ⟨.hbm, 303, rfl⟩
abbrev main_call9_v10 : Ref sig .tc := ⟨.hbm, 304, rfl⟩
abbrev main_call9_c_3 : Ref sig .tc := ⟨.hbm, 305, rfl⟩
abbrev main_call9_v11 : Ref sig .tc := ⟨.hbm, 306, rfl⟩
abbrev main_call9_v12 : Ref sig .tc := ⟨.hbm, 307, rfl⟩
abbrev main_call9_v13 : Ref sig .tc := ⟨.hbm, 308, rfl⟩
abbrev main_call9_cst : Ref sig .tc := ⟨.hbm, 309, rfl⟩
abbrev main_call9_v14 : Ref sig .tc := ⟨.hbm, 310, rfl⟩
abbrev main_v130 : Ref sig .tc := ⟨.hbm, 311, rfl⟩
abbrev main_cst_47 : Ref sig .tc := ⟨.hbm, 312, rfl⟩
abbrev main_v131 : Ref sig .tc := ⟨.hbm, 313, rfl⟩
abbrev main_cst_48 : Ref sig .tc := ⟨.hbm, 314, rfl⟩
abbrev main_v132 : Ref sig .tc := ⟨.hbm, 315, rfl⟩
abbrev main_v133 : Ref sig .tc := ⟨.hbm, 316, rfl⟩
abbrev main_v134 : Ref sig .tc := ⟨.hbm, 317, rfl⟩
abbrev main_cst_49 : Ref sig .tc := ⟨.hbm, 318, rfl⟩
abbrev main_v135 : Ref sig .tc := ⟨.hbm, 319, rfl⟩
abbrev main_cst_50 : Ref sig .tc := ⟨.hbm, 320, rfl⟩
abbrev main_v136 : Ref sig .tc := ⟨.hbm, 321, rfl⟩
abbrev main_v137 : Ref sig .tc := ⟨.hbm, 322, rfl⟩
abbrev main_cst_51 : Ref sig .tc := ⟨.hbm, 323, rfl⟩
abbrev main_v138 : Ref sig .tc := ⟨.hbm, 324, rfl⟩
abbrev main_v139 : Ref sig .tc := ⟨.hbm, 325, rfl⟩
abbrev main_v140 : Ref sig .tc := ⟨.hbm, 326, rfl⟩
abbrev main_v141 : Ref sig .tc := ⟨.hbm, 327, rfl⟩
abbrev main_v142 : Ref sig .tc := ⟨.hbm, 328, rfl⟩
abbrev main_v143 : Ref sig .tc := ⟨.hbm, 329, rfl⟩
abbrev main_cst_52 : Ref sig .tc := ⟨.hbm, 330, rfl⟩
abbrev main_v144 : Ref sig .tc := ⟨.hbm, 331, rfl⟩
abbrev main_cst_53 : Ref sig .tc := ⟨.hbm, 332, rfl⟩
abbrev main_v145 : Ref sig .tc := ⟨.hbm, 333, rfl⟩
abbrev main_v146 : Ref sig .tc := ⟨.hbm, 334, rfl⟩
abbrev main_cst_54 : Ref sig .tc := ⟨.hbm, 335, rfl⟩
abbrev main_v147 : Ref sig .tc := ⟨.hbm, 336, rfl⟩
abbrev main_cst_55 : Ref sig .tc := ⟨.hbm, 337, rfl⟩
abbrev main_v148 : Ref sig .tc := ⟨.hbm, 338, rfl⟩
abbrev main_v149 : Ref sig .tc := ⟨.hbm, 339, rfl⟩
abbrev main_v150 : Ref sig .tc := ⟨.hbm, 340, rfl⟩
abbrev main_v151 : Ref sig .tc := ⟨.hbm, 341, rfl⟩
abbrev main_v152 : Ref sig .tc := ⟨.hbm, 342, rfl⟩
abbrev main_v153 : Ref sig .tc := ⟨.hbm, 343, rfl⟩
abbrev main_v154 : Ref sig .tc := ⟨.hbm, 344, rfl⟩
abbrev main_v155 : Ref sig .tc := ⟨.hbm, 345, rfl⟩
abbrev main_v156 : Ref sig .tc := ⟨.hbm, 346, rfl⟩
abbrev main_v157 : Ref sig .tc := ⟨.hbm, 347, rfl⟩
abbrev main_v158 : Ref sig .tc := ⟨.hbm, 348, rfl⟩
abbrev main_call10_v0 : Ref sig .tc := ⟨.hbm, 349, rfl⟩
abbrev main_call10_cst : Ref sig .tc := ⟨.hbm, 350, rfl⟩
abbrev main_call10_v1 : Ref sig .tc := ⟨.hbm, 351, rfl⟩
abbrev main_v159 : Ref sig .tc := ⟨.hbm, 352, rfl⟩
abbrev main_cst_56 : Ref sig .tc := ⟨.hbm, 353, rfl⟩
abbrev main_v160 : Ref sig .tc := ⟨.hbm, 354, rfl⟩
abbrev main_v161 : Ref sig .tc := ⟨.hbm, 355, rfl⟩
abbrev main_call11_v0 : Ref sig .tc := ⟨.hbm, 356, rfl⟩
abbrev main_call11_cst : Ref sig .tc := ⟨.hbm, 357, rfl⟩
abbrev main_call11_v1 : Ref sig .tc := ⟨.hbm, 358, rfl⟩
abbrev main_v162 : Ref sig .tc := ⟨.hbm, 359, rfl⟩
abbrev main_v163 : Ref sig .tc := ⟨.hbm, 360, rfl⟩
abbrev main_call12_cst : Ref sig .tc := ⟨.hbm, 361, rfl⟩
abbrev main_call12_v0 : Ref sig .tc := ⟨.hbm, 362, rfl⟩
abbrev main_v164 : Ref sig .tc := ⟨.hbm, 363, rfl⟩
abbrev main_cst_57 : Ref sig .tc := ⟨.hbm, 364, rfl⟩
abbrev main_v165 : Ref sig .tc := ⟨.hbm, 365, rfl⟩
abbrev main_cst_58 : Ref sig .tc := ⟨.hbm, 366, rfl⟩
abbrev main_v166 : Ref sig .tc := ⟨.hbm, 367, rfl⟩
abbrev main_v167 : Ref sig .tc := ⟨.hbm, 368, rfl⟩
abbrev main_v168 : Ref sig .tc := ⟨.hbm, 369, rfl⟩
abbrev main_v169 : Ref sig .tc := ⟨.hbm, 370, rfl⟩
abbrev main_v170 : Ref sig .tc := ⟨.hbm, 371, rfl⟩
abbrev main_v171 : Ref sig .tc := ⟨.hbm, 372, rfl⟩
abbrev main_v172 : Ref sig .tc := ⟨.hbm, 373, rfl⟩
abbrev main_v173 : Ref sig .tc := ⟨.hbm, 374, rfl⟩
abbrev main_v174 : Ref sig .tc := ⟨.hbm, 375, rfl⟩
abbrev main_v175 : Ref sig .tc := ⟨.hbm, 376, rfl⟩
abbrev main_v176 : Ref sig .tc := ⟨.hbm, 377, rfl⟩
abbrev main_v177 : Ref sig .tc := ⟨.hbm, 378, rfl⟩
abbrev main_v178 : Ref sig .tc := ⟨.hbm, 379, rfl⟩

abbrev nD : Nat := 1
abbrev τ : Topo := Topo.v7x

variable {F : FTy → Type} [FloatOps F]
-- ==== Proof.Blocks.lean ====
/-
  What one grid point of the kernel leaves in its eight output blocks, as terms over the blocks it reads.

  The kernel's run names, for each output, the contents its stores leave (`Gen.outsAt0`). Here each of them is opened to
  the composition of the body's computed values over the nine input blocks (`fmBlock`, `attnA`, …), the counted loops as
  the iterates of their one pass (`loop1` … `loop5`). Nothing is said yet of what the values are.
-/
module

public import proofs.«01_k».proof.Proof.Gen.KernelIdeal.Value
public import Idealize.ShloMosaic.Lib.Pipeline.Value
public import Idealize.ShloMosaic.Lib.ValueIdxCore
public import Idealize.ShloMosaic.Lib.Tactic

@[expose] public section

noncomputable section

open Idealize.ShloMosaic Idealize.ShloMosaic.TcCoe Idealize.ShloMosaic.ValueIdx Idealize.SL.Sem

namespace Cert.KernelIdeal.Blocks

open Cert.KernelIdeal Cert.KernelIdeal.Gen

variable {F : FTy → Type} [FloatOps F] [Named F]

/-- Two zero offsets. -/
theorem hz2 : (![0, 0] : Fin 2 → Nat) = fun _ => 0 := funext fun a => by fin_cases a <;> rfl
/-- Three zero offsets. -/
theorem hz3 : (![0, 0, 0] : Fin 3 → Nat) = fun _ => 0 := funext fun a => by fin_cases a <;> rfl
/-- Four zero offsets. -/
theorem hz4 : (![0, 0, 0, 0] : Fin 4 → Nat) = fun _ => 0 := funext fun a => by fin_cases a <;> rfl

/-- A loop that applies the same function at every trip is that function's iterate. -/
theorem fold_const {σ : Type} {n : ℕ} (f : σ → σ) (x : σ) : Scf.fold (n := n) (fun _ v => f v) x = f^[n] x := by
  rw [Scf.fold_eq]
  have h : ∀ (l : List (Fin n)) (x : σ), l.foldl (fun acc _ => f acc) x = f^[l.length] x := by
    intro l
    induction l with
    | nil => intro x; rfl
    | cons a l ih => intro x; rw [List.foldl_cons, ih, List.length_cons, Function.iterate_succ_apply]
  rw [h, List.length_finRange]

/-- The first loop of the kernel is the 32nd iterate of its body. -/
theorem loop1 (x : FVec F S512x512 .f32) : Scf.fold (n := k0_t1_loop.trips) (fun _ v => k0_pay14 v) x = k0_pay14^[32] x :=
  (fold_const _ x).trans (by rw [show k0_t1_loop.trips = 32 from by decide])
/-- The second loop is the 32nd iterate of its body. -/
theorem loop2 (x : FVec F S512x512 .f32) : Scf.fold (n := k0_t2_loop.trips) (fun _ v => k0_pay16 v) x = k0_pay16^[32] x :=
  (fold_const _ x).trans (by rw [show k0_t2_loop.trips = 32 from by decide])
/-- The third loop is the 16th iterate of its body. -/
theorem loop3 (x : FVec F S256x1 .f32) : Scf.fold (n := k0_t3_loop.trips) (fun _ v => k0_pay30 v) x = k0_pay30^[16] x :=
  (fold_const _ x).trans (by rw [show k0_t3_loop.trips = 16 from by decide])
/-- The fourth loop is the 16th iterate of its body. -/
theorem loop4 (x : FVec F S256x1 .f32) : Scf.fold (n := k0_t4_loop.trips) (fun _ v => k0_pay32 v) x = k0_pay32^[16] x :=
  (fold_const _ x).trans (by rw [show k0_t4_loop.trips = 16 from by decide])
/-- The fifth loop is the 16th iterate of its body. -/
theorem loop5 (x : FVec F S256x1 .f32) : Scf.fold (n := k0_t5_loop.trips) (fun _ v => k0_pay38 v) x = k0_pay38^[16] x :=
  (fold_const _ x).trans (by rw [show k0_t5_loop.trips = 16 from by decide])

/-- A 2×1×256×1024 block put together of four 256×512 arrays: left and right of each of its two slices. -/
def fourBlock {α : Type} (a b c d : S256x512.Idx → α) : S2x1x256x1024.Idx → α := fun j =>
  if (j 0).val = 0 then
    if h : (j 3).val < 512 then a (ix2 (j 2) ⟨(j 3).val, h⟩)
    else b (ix2 (j 2) ⟨(j 3).val - 512, by have h3 : (j 3).val < 1024 := (j 3).isLt; omega⟩)
  else
    if h : (j 3).val < 512 then c (ix2 (j 2) ⟨(j 3).val, h⟩)
    else d (ix2 (j 2) ⟨(j 3).val - 512, by have h3 : (j 3).val < 1024 := (j 3).isLt; omega⟩)

/-- A 256×512 array stored as a 1×1×256×512 block is read at its last two coordinates. -/
theorem unit2_apply {α : Type} (x : S256x512.Idx → α) (h : S256x512.ShapeCasts S1x1x256x512) (j : S1x1x256x512.Idx) :
    shapeCast S1x1x256x512 x h j = x (ix2 (j 2) (j 3)) :=
  shapeCast_apply x h j _ (by
    have h0 : (j 0).val < 1 := (j 0).isLt
    have h1 : (j 1).val < 1 := (j 1).isLt
    rw [Shape.rowMajor_val_two, Shape.rowMajor_val_four]
    show (j 2).val * 512 + (j 3).val = (((j 0).val * 1 + (j 1).val) * 256 + (j 2).val) * 512 + (j 3).val
    omega)

/-- One of the four stores: where the offsets put element `x` of the stored array. -/
theorem fourBlock_piece {α : Type} (a b c d v : S256x512.Idx → α) (o l : ℕ) (inb) (h : S256x512.ShapeCasts S1x1x256x512)
    (hv : (o = 0 ∧ l = 0 ∧ v = a) ∨ (o = 0 ∧ l = 512 ∧ v = b) ∨ (o = 1 ∧ l = 0 ∧ v = c) ∨ (o = 1 ∧ l = 512 ∧ v = d))
    (x : S1x1x256x512.Idx) :
    shapeCast S1x1x256x512 v h x
      = fourBlock a b c d ((Rect.unit (s := S2x1x256x1024) ![o, 0, 0, l] ![1, 1, 256, 512] inb).emb x) := by
  have e0 : ((Rect.unit (s := S2x1x256x1024) ![o, 0, 0, l] ![1, 1, 256, 512] inb).emb x 0).val = o + 1 * (x 0).val := rfl
  have e3 : ((Rect.unit (s := S2x1x256x1024) ![o, 0, 0, l] ![1, 1, 256, 512] inb).emb x 3).val = l + 1 * (x 3).val := rfl
  have e2 : (Rect.unit (s := S2x1x256x1024) ![o, 0, 0, l] ![1, 1, 256, 512] inb).emb x 2 = x 2 :=
    Fin.ext (show 0 + 1 * (x 2).val = (x 2).val by omega)
  have x0 : (x 0).val < 1 := (x 0).isLt
  have x3 : (x 3).val < 512 := (x 3).isLt
  rw [unit2_apply]
  unfold fourBlock
  rcases hv with ⟨rfl, rfl, rfl⟩ | ⟨rfl, rfl, rfl⟩ | ⟨rfl, rfl, rfl⟩ | ⟨rfl, rfl, rfl⟩
  · rw [if_pos (by omega), dif_pos (by omega), e2]
    congr 2; exact Fin.ext (by show _ = _; dsimp only; omega)
  · rw [if_pos (by omega), dif_neg (by omega), e2]
    congr 2; exact Fin.ext (by show _ = _; dsimp only; omega)
  · rw [if_neg (by omega), dif_pos (by omega), e2]
    congr 2; exact Fin.ext (by show _ = _; dsimp only; omega)
  · rw [if_neg (by omega), dif_neg (by omega), e2]
    congr 2; exact Fin.ext (by show _ = _; dsimp only; omega)

/-- The four stores of the body make up the block. -/
theorem fourBlock_canon (a b c d : FVec F S256x512 .f32) (h : S256x512.ShapeCasts S1x1x256x512) :
    View.canon (Val := Elt F) (e := .f32)
      [⟨Rect.unit ![1, 0, 0, 512] ![1, 1, 256, 512] inb_S2x1x256x1024_S1x1x256x512_1_0_0_512, shapeCast S1x1x256x512 d h⟩,
       ⟨Rect.unit ![1, 0, 0, 0] ![1, 1, 256, 512] inb_S2x1x256x1024_S1x1x256x512_1_0_0_0, shapeCast S1x1x256x512 c h⟩,
       ⟨Rect.unit ![0, 0, 0, 512] ![1, 1, 256, 512] inb_S2x1x256x1024_S1x1x256x512_0_0_0_512, shapeCast S1x1x256x512 b h⟩,
       ⟨Rect.unit ![0, 0, 0, 0] ![1, 1, 256, 512] inb_S2x1x256x1024_S1x1x256x512_0_0_0_0, shapeCast S1x1x256x512 a h⟩]
      = fourBlock a b c d := by
  funext j
  refine View.canon_apply_of_pieces (Val := Elt F) (S := S2x1x256x1024) (e := .f32) (fourBlock (α := F .f32) a b c d) _ ?_ j
    (View.cover_of_tiledL (s := S2x1x256x1024) _ ![1, 1, 256, 512] (by sl_kernel_rfl) j)
  intro p hp x
  simp only [List.mem_cons, List.not_mem_nil, or_false] at hp
  rcases hp with rfl | rfl | rfl | rfl
  · exact fourBlock_piece a b c d d 1 512 inb_S2x1x256x1024_S1x1x256x512_1_0_0_512 h (by simp) x
  · exact fourBlock_piece a b c d c 1 0 inb_S2x1x256x1024_S1x1x256x512_1_0_0_0 h (by simp) x
  · exact fourBlock_piece a b c d b 0 512 inb_S2x1x256x1024_S1x1x256x512_0_0_0_512 h (by simp) x
  · exact fourBlock_piece a b c d a 0 0 inb_S2x1x256x1024_S1x1x256x512_0_0_0_0 h (by simp) x

section Values

variable (x0 : Vec F S2x1x256x512 .f32) (x1 : Vec F S1x256x512 .f32) (x2 x3 : Vec F S512x512 .f32)
  (x4 : Vec F S512x1024 .f32) (x5 x6 : Vec F S512x512 .f32) (x7 x8 : Vec F S1x512 .f32)

/-- The attention of the 512 rows to the abnormal memory, with its 32 greatest entries per row overwritten. -/
def clearA : FVec F S512x512 .f32 := k0_pay14^[32] (k0_pay12 x0 x4)
/-- The attention of the 512 rows to the normal memory, with its 32 greatest entries per row overwritten. -/
def clearN : FVec F S512x512 .f32 := k0_pay16^[32] (k0_pay13 x0 x4)
/-- The temporal attention of the 512 rows to the abnormal memory. -/
def slotA : FVec F S512x1 .f32 := k0_pay15 x0 x4 (clearA x0 x4)
/-- The abnormal rows' temporal attention to the abnormal memory. -/
def tAA : FVec F S256x1 .f32 := k0_pay18 (slotA x0 x4)
/-- The normal rows' temporal attention to the normal memory. -/
def tNN : FVec F S256x1 .f32 := k0_pay19 (k0_pay13 x0 x4) (clearN x0 x4)
/-- The abnormal rows' temporal attention to the normal memory. -/
def tNA : FVec F S256x1 .f32 := k0_pay20 (k0_pay13 x0 x4) (clearN x0 x4)
/-- The selection of the 17 abnormal rows, as a column of zeros and ones. -/
def maskA : FVec F S256x1 .f32 := k0_pay31 (tAA x0 x4) (k0_pay30^[16] (tAA x0 x4))
/-- The normal rows' temporal attention with its 16 greatest entries overwritten. -/
def clearT : FVec F S256x1 .f32 := k0_pay32^[16] (tNN x0 x4)
/-- The rows augmented from the abnormal memory. -/
def augA : FVec F S512x512 .f32 :=
  k0_pay27 (k0_pay25 (k0_pay12 x0 x4)) (k0_pay26 x2) (constant S512x512 FTy.f32 0x00000000#32)
/-- The rows augmented from the normal memory. -/
def augN : FVec F S512x512 .f32 := k0_pay28 (k0_pay13 x0 x4) x3
/-- The new normal features. -/
def newN : FVec F S256x512 .f32 := k0_pay51 (k0_pay10 x1) (augN x0 x3 x4) (k0_pay43 x7) x5 x6 x8

/-- One sample pair's triplet margin term. -/
def tmlBlock : FVec F S1x1 .f32 :=
  k0_pay42 (k0_pay9 x0) (k0_pay39 (k0_pay9 x0) (maskA x0 x4))
    (k0_pay40 (k0_pay8 x0) k0_pay29 (k0_pay34 (tNN x0 x4) (clearT x0 x4)) (k0_pay35 (tNN x0 x4) (clearT x0 x4))
      (k0_pay36 (tNN x0 x4) (clearT x0 x4)))
    (k0_pay41 (tNA x0 x4) k0_pay29 (k0_pay38^[16] (tNA x0 x4)))

/-- One sample pair's divergence sum. -/
def klBlock : F .f32 :=
  k0_pay56 (k0_pay50 (augN x0 x3 x4) x6 x8) (k0_pay54 (augN x0 x3 x4) x6 x8)
    (k0_pay55 (augN x0 x3 x4) (k0_pay43 x7) x5)

/-- One sample pair's distance term. -/
def distBlock : FVec F S1x1 .f32 :=
  k0_pay57
    (k0_pay52 (k0_pay10 x1) (augN x0 x3 x4)
      (k0_pay37 k0_pay29 (k0_pay34 (tNN x0 x4) (clearT x0 x4)) (k0_pay35 (tNN x0 x4) (clearT x0 x4))
        (k0_pay36 (tNN x0 x4) (clearT x0 x4)))
      (k0_pay43 x7) x5 x6 x8)
    (k0_pay53 (augA x0 x2 x4) (maskA x0 x4) (k0_pay43 x7) x5)

/-- The feature block: the sample's rows on the left, the augmented features on the right. -/
def fmBlock : Vec F S2x1x256x1024 .f32 :=
  fourBlock (k0_pay8 x0) (addf (newN x0 x1 x3 x4 x5 x6 x7 x8) (k0_pay46 (augA x0 x2 x4) (k0_pay43 x7) x5))
    (k0_pay9 x0) (addf (k0_pay47 (augA x0 x2 x4) (k0_pay43 x7) x5) (k0_pay49 (augN x0 x3 x4) (k0_pay43 x7) x5))

end Values

variable (m : (ℓ : Loc nD τ sig) → Buf (Elt F) ℓ)

/-- What the first point leaves in the eight output blocks: the accumulators start from zero. -/
theorem outs_A (c : Dev nD) (t : Fin cfg0.N) (h0 : t.val % 32 = 0) :
    outsAt0 m c t.val t.isLt = (fmBlock (iblk m c 0 t) (iblk m c 1 t) (iblk m c 2 t) (iblk m c 3 t) (iblk m c 4 t)
        (iblk m c 5 t) (iblk m c 6 t) (iblk m c 7 t) (iblk m c 8 t),
      k0_pay21 (slotA (iblk m c 0 t) (iblk m c 4 t)),
      k0_pay24 (k0_pay13 (iblk m c 0 t) (iblk m c 4 t)) (clearN (iblk m c 0 t) (iblk m c 4 t)),
      k0_pay23 (slotA (iblk m c 0 t) (iblk m c 4 t)),
      k0_pay22 (k0_pay13 (iblk m c 0 t) (iblk m c 4 t)) (clearN (iblk m c 0 t) (iblk m c 4 t)),
      k0_pay4 (tmlBlock (iblk m c 0 t) (iblk m c 4 t)) k0_pay1,
      k0_pay5 (klBlock (iblk m c 0 t) (iblk m c 3 t) (iblk m c 4 t) (iblk m c 5 t) (iblk m c 6 t) (iblk m c 7 t)
        (iblk m c 8 t)) k0_pay2,
      k0_pay6 (distBlock (iblk m c 0 t) (iblk m c 1 t) (iblk m c 2 t) (iblk m c 3 t) (iblk m c 4 t)
        (iblk m c 5 t) (iblk m c 6 t) (iblk m c 7 t) (iblk m c 8 t)) k0_pay3) := by
  rw [outsAt0_A m c t h0]
  refine congrArg₂ Prod.mk ((View.read_writes_eq_canon _ _ _ (fun _ => cover0_A_9 ..)).trans ?_)
    (congrArg₂ Prod.mk ((View.read_writes_eq_canon _ _ _ (fun _ => cover0_A_10 ..)).trans ?_)
    (congrArg₂ Prod.mk ((View.read_writes_eq_canon _ _ _ (fun _ => cover0_A_11 ..)).trans ?_)
    (congrArg₂ Prod.mk ((View.read_writes_eq_canon _ _ _ (fun _ => cover0_A_12 ..)).trans ?_)
    (congrArg₂ Prod.mk ((View.read_writes_eq_canon _ _ _ (fun _ => cover0_A_13 ..)).trans ?_)
    (congrArg₂ Prod.mk ((View.read_writes_eq_canon _ _ _ (fun _ => cover0_A_14 ..)).trans ?_)
    (congrArg₂ Prod.mk ((View.read_writes_eq_canon _ _ _ (fun _ => cover0_A_15 ..)).trans ?_)
    ((View.read_writes_eq_canon _ _ _ (fun _ => cover0_A_16 ..)).trans ?_)))))))
  all_goals
    unfold kernelRun0_A
    dsimp only
    sl_unfold_words
    simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread, View.ld_unit_zero (S := S512x512) hz2, View.ld_unit_zero (S := S512x1024) hz2,
    View.ld_unit_zero (S := S1x512) hz2, View.ld_unit_zero (S := S1x1) hz2, View.ld_unit_zero (S := S1x256x512) hz3,
    View.ld_unit_zero (S := S2x1x256x512) hz4,
      View.canon_unit_zero (S := S1x256x1) hz3, View.canon_cons_unit_zero (S := S1x1) hz2, View.readCov_unit_zero (S := S1x1) _ hz2,
      loop1, loop2, loop3, loop4, loop5]
  · unfold k0_pay58 k0_pay59 k0_pay60 k0_pay61
    exact fourBlock_canon ..
  all_goals rfl

/-- What a later point leaves in the eight output blocks: the accumulators go on from the point before. -/
theorem outs_B (c : Dev nD) (t : Fin cfg0.N) (h0 : ¬t.val % 32 = 0) :
    outsAt0 m c t.val t.isLt = (fmBlock (iblk m c 0 t) (iblk m c 1 t) (iblk m c 2 t) (iblk m c 3 t) (iblk m c 4 t)
        (iblk m c 5 t) (iblk m c 6 t) (iblk m c 7 t) (iblk m c 8 t),
      k0_pay21 (slotA (iblk m c 0 t) (iblk m c 4 t)),
      k0_pay24 (k0_pay13 (iblk m c 0 t) (iblk m c 4 t)) (clearN (iblk m c 0 t) (iblk m c 4 t)),
      k0_pay23 (slotA (iblk m c 0 t) (iblk m c 4 t)),
      k0_pay22 (k0_pay13 (iblk m c 0 t) (iblk m c 4 t)) (clearN (iblk m c 0 t) (iblk m c 4 t)),
      k0_pay4 (tmlBlock (iblk m c 0 t) (iblk m c 4 t)) (outsAt0 m c (t.val - 1) (Nat.lt_of_le_of_lt (Nat.sub_le _ _) t.isLt)).2.2.2.2.2.1,
      k0_pay5 (klBlock (iblk m c 0 t) (iblk m c 3 t) (iblk m c 4 t) (iblk m c 5 t) (iblk m c 6 t) (iblk m c 7 t)
        (iblk m c 8 t)) (outsAt0 m c (t.val - 1) (Nat.lt_of_le_of_lt (Nat.sub_le _ _) t.isLt)).2.2.2.2.2.2.1,
      k0_pay6 (distBlock (iblk m c 0 t) (iblk m c 1 t) (iblk m c 2 t) (iblk m c 3 t) (iblk m c 4 t)
        (iblk m c 5 t) (iblk m c 6 t) (iblk m c 7 t) (iblk m c 8 t)) (outsAt0 m c (t.val - 1) (Nat.lt_of_le_of_lt (Nat.sub_le _ _) t.isLt)).2.2.2.2.2.2.2) := by
  rw [outsAt0_B m c t h0]
  refine congrArg₂ Prod.mk ((View.read_writes_eq_canon _ _ _ (fun _ => cover0_B_9 ..)).trans ?_)
    (congrArg₂ Prod.mk ((View.read_writes_eq_canon _ _ _ (fun _ => cover0_B_10 ..)).trans ?_)
    (congrArg₂ Prod.mk ((View.read_writes_eq_canon _ _ _ (fun _ => cover0_B_11 ..)).trans ?_)
    (congrArg₂ Prod.mk ((View.read_writes_eq_canon _ _ _ (fun _ => cover0_B_12 ..)).trans ?_)
    (congrArg₂ Prod.mk ((View.read_writes_eq_canon _ _ _ (fun _ => cover0_B_13 ..)).trans ?_)
    (congrArg₂ Prod.mk ((View.read_writes_eq_canon _ _ _ (fun _ => cover0_B_14 ..)).trans ?_)
    (congrArg₂ Prod.mk ((View.read_writes_eq_canon _ _ _ (fun _ => cover0_B_15 ..)).trans ?_)
    ((View.read_writes_eq_canon _ _ _ (fun _ => cover0_B_16 ..)).trans ?_)))))))
  all_goals
    unfold kernelRun0_B
    dsimp only
    sl_unfold_words
    simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread, (hs0_14 t).read_unread, (hs0_15 t).read_unread,
    (hs0_16 t).read_unread, View.ld_unit_zero (S := S512x512) hz2, View.ld_unit_zero (S := S512x1024) hz2,
    View.ld_unit_zero (S := S1x512) hz2, View.ld_unit_zero (S := S1x1) hz2, View.ld_unit_zero (S := S1x256x512) hz3,
    View.ld_unit_zero (S := S2x1x256x512) hz4,
      View.canon_unit_zero (S := S1x256x1) hz3, View.canon_unit_zero (S := S1x1) hz2,
      loop1, loop2, loop3, loop4, loop5]
  · unfold k0_pay58 k0_pay59 k0_pay60 k0_pay61
    exact fourBlock_canon ..
  all_goals rfl

end Cert.KernelIdeal.Blocks
-- ==== Proof.TopK.lean ====
/-
  Selecting the greatest elements of a row of extended reals, two ways.

  A row `v` of `n` different values is given. `rank v k` is the number of values strictly above `v k`, so the values of
  rank below `m` are the `m` greatest. This file relates the rank to

    * the iteration "find the maximum, overwrite it by a value below all of the row, repeat" (`step_iterate`, `top_cut`),
    * the indicator and the count of the selected elements (`count_rank`, `topSum_succ`), and
    * the stable descending sort a top-k operation takes a prefix of (`sortedFrom_desc`, `sum_sorted`).
-/
module

public import Idealize.ShloMosaic.Lib.SortPrefix
public import Mathlib.Data.EReal.Inv

@[expose] public section

noncomputable section

open Idealize.ShloMosaic

namespace Cert.TopK

open Finset

variable {n : ℕ}

/-- How many values of the row lie strictly above the one at `k`. -/
def rank (v : Fin n → EReal) (k : Fin n) : ℕ := (univ.filter fun l => v k < v l).card

variable (v : Fin n → EReal)

/-- A greater value has a smaller rank. -/
theorem rank_lt_rank {k l : Fin n} (h : v k < v l) : rank v l < rank v k := by
  refine card_lt_card ⟨fun a ha => ?_, fun hs => ?_⟩
  · simp only [mem_filter, mem_univ, true_and] at ha ⊢
    exact h.trans ha
  · have := hs (by simpa using h : l ∈ univ.filter fun a => v k < v a)
    simp at this

/-- A rank is below the length of the row. -/
theorem rank_lt (k : Fin n) : rank v k < n := by
  have h : (univ.filter fun l => v k < v l) ⊂ (univ : Finset (Fin n)) :=
    ⟨filter_subset _ _, fun hs => by simpa using hs (mem_univ k)⟩
  simpa [rank] using card_lt_card h

variable {v}

/-- Different values have different ranks. -/
theorem rank_injective (hv : Function.Injective v) : Function.Injective (rank v) := by
  intro k l h
  by_contra hne
  rcases lt_or_gt_of_ne (fun e => hne (hv e)) with h' | h'
  · exact absurd h (rank_lt_rank v h').ne'
  · exact absurd h (rank_lt_rank v h').ne

/-- Comparing ranks is comparing values, the other way round. -/
theorem rank_lt_iff (hv : Function.Injective v) (k l : Fin n) : rank v k < rank v l ↔ v l < v k := by
  refine ⟨fun h => ?_, rank_lt_rank v⟩
  rcases lt_trichotomy (v l) (v k) with h' | h' | h'
  · exact h'
  · rw [hv h'] at h; exact absurd h (lt_irrefl _)
  · exact absurd (rank_lt_rank v h') (not_lt.mpr h.le)

/-- The ranks of a row of different values are a permutation of the positions. -/
def rankEquiv (hv : Function.Injective v) : Fin n ≃ Fin n :=
  Equiv.ofBijective (fun k => ⟨rank v k, rank_lt v k⟩)
    (Finite.injective_iff_bijective.mp fun _ _ h => rank_injective hv (by simpa using h))

/-- The position of the value of rank `j`. -/
def unrank (hv : Function.Injective v) (j : Fin n) : Fin n := (rankEquiv hv).symm j

/-- The entry of a rank has that rank. -/
theorem rank_unrank (hv : Function.Injective v) (j : Fin n) : rank v (unrank hv j) = j.val :=
  congrArg Fin.val ((rankEquiv hv).apply_symm_apply j)

/-- Different ranks belong to different entries. -/
theorem unrank_injective (hv : Function.Injective v) : Function.Injective (unrank hv) := (rankEquiv hv).symm.injective

/-! ### The iteration that removes the maximum -/

/-- The maximum of a row, from the least extended real. -/
def top (w : Fin n → EReal) : EReal := (univ : Finset (Fin n)).fold max ⊥ w

/-- One pass of the iteration: the positions that hold the maximum are overwritten by `L`. -/
def step (L : EReal) (w : Fin n → EReal) : Fin n → EReal := fun k => if w k = top w then L else w k

/-- The row with the `j` greatest values overwritten by `L`. -/
def cut (v : Fin n → EReal) (L : EReal) (j : ℕ) : Fin n → EReal := fun k => if rank v k < j then L else v k

/-- The maximum of what is left after `j` removals is the value of rank `j`. -/
theorem top_cut (hv : Function.Injective v) {L : EReal} (hL : ∀ k, L < v k) (j : Fin n) :
    top (cut v L j.val) = v (unrank hv j) := by
  apply le_antisymm
  · refine (Finset.fold_max_le _).mpr ⟨bot_le, fun k _ => ?_⟩
    unfold cut
    split_ifs with h
    · exact (hL _).le
    · by_contra h'
      have := (rank_lt_iff hv k (unrank hv j)).mpr (not_le.mp h')
      rw [rank_unrank] at this
      exact h this
  · refine (Finset.le_fold_max _).mpr (Or.inr ⟨unrank hv j, mem_univ _, ?_⟩)
    unfold cut
    rw [rank_unrank, if_neg (lt_irrefl _)]

/-- One pass removes the value of the next rank. -/
theorem step_cut (hv : Function.Injective v) {L : EReal} (hL : ∀ k, L < v k) (j : Fin n) :
    step L (cut v L j.val) = cut v L (j.val + 1) := by
  funext k
  unfold step
  rw [top_cut hv hL]
  unfold cut
  by_cases h : rank v k < j.val
  · rw [if_pos h, if_pos (Nat.lt_succ_of_lt h), if_neg (hL _).ne]
  · rw [if_neg h]
    by_cases he : rank v k = j.val
    · have : k = unrank hv j := rank_injective hv (by rw [he, rank_unrank])
      rw [if_pos (by rw [← this]), if_pos (by omega)]
    · rw [if_neg (show ¬rank v k < j.val + 1 by omega), if_neg]
      intro hk
      exact he (by rw [hv hk, rank_unrank])

/-- So `m` passes remove the `m` greatest values. -/
theorem step_iterate (hv : Function.Injective v) {L : EReal} (hL : ∀ k, L < v k) (m : ℕ) (hm : m ≤ n) :
    (step L)^[m] v = cut v L m := by
  induction m with
  | zero => funext k; simp [cut]
  | succ m ih => rw [Function.iterate_succ_apply', ih (by omega)]; exact step_cut hv hL ⟨m, hm⟩

/-- The maximum of what `m` passes leave. -/
theorem top_iterate (hv : Function.Injective v) {L : EReal} (hL : ∀ k, L < v k) (m : Fin n) :
    top ((step L)^[m.val] v) = v (unrank hv m) := by rw [step_iterate hv hL m.val m.isLt.le, top_cut hv hL]

/-- Lying above the value of rank `m` is having rank below `m`. -/
theorem gt_iff (hv : Function.Injective v) (m : Fin n) (k : Fin n) : v (unrank hv m) < v k ↔ rank v k < m.val := by
  rw [← rank_lt_iff hv, rank_unrank]

/-- Equalling the value of rank `m` is having rank `m`. -/
theorem eq_iff (hv : Function.Injective v) (m : Fin n) (k : Fin n) : v k = v (unrank hv m) ↔ rank v k = m.val := by
  constructor
  · intro h; rw [hv h, rank_unrank]
  · intro h; congr 1; exact rank_injective hv (by rw [h, rank_unrank])

/-! ### Sums over the selected elements -/

/-- The sum of `f` over the positions of the `m` greatest values of `v`. -/
def topSum (v : Fin n → EReal) (m : ℕ) (f : Fin n → EReal) : EReal := ∑ k, if rank v k < m then f k else 0

/-- The sum over the `m` greatest, listed from the greatest down. -/
theorem topSum_eq (hv : Function.Injective v) (m : ℕ) (hm : m ≤ n) (f : Fin n → EReal) :
    topSum v m f = ∑ j : Fin m, f (unrank hv (j.castLE hm)) := by
  unfold topSum
  rw [← Finset.sum_filter]
  symm
  refine Finset.sum_bij (fun j _ => unrank hv (j.castLE hm)) (fun j _ => ?_) (fun a _ b _ h => ?_) (fun k hk => ?_)
    (fun _ _ => rfl)
  · simp [rank_unrank]
  · simpa using unrank_injective hv h
  · simp only [mem_filter, mem_univ, true_and] at hk
    exact ⟨⟨rank v k, hk⟩, mem_univ _, rank_injective hv (by rw [rank_unrank]; rfl)⟩

/-- The number of selected positions, as a sum of ones. -/
theorem count_rank (hv : Function.Injective v) (m : ℕ) (hm : m ≤ n) :
    (∑ k, if rank v k < m then (1 : EReal) else 0) = ((m : ℝ) : EReal) := by
  have h := topSum_eq hv m hm fun _ => 1
  unfold topSum at h
  rw [h]
  simp

/-- One more element: the sum over the `m + 1` greatest is the sum over the `m` greatest plus the element of rank `m`. -/
theorem topSum_succ (hv : Function.Injective v) (m : Fin n) (f : Fin n → EReal) :
    topSum v (m.val + 1) f = topSum v m.val f + f (unrank hv m) := by
  rw [topSum_eq hv _ m.isLt, topSum_eq hv _ m.isLt.le, Fin.sum_univ_castSucc]
  rfl

/-! ### The descending sort -/

/-- The comparison "the value here is above the value there" orders the positions totally. -/
theorem strictTotal (hv : Function.Injective v) : StrictTotalBefore fun k l : Fin n => decide (v l < v k) where
  irrefl a := by simp
  trans a b c h h' := by simp only [decide_eq_true_eq] at *; exact h'.trans h
  total a b h := by
    simp only [decide_eq_true_eq]
    exact (lt_or_gt_of_ne fun e => h (hv e)).symm

/-- The descending sort puts the element of rank `i` at place `i`. -/
theorem sortedFrom_desc (hv : Function.Injective v) (i : Fin n) :
    sortedFrom (fun k l : Fin n => decide (v l < v k)) i = unrank hv i :=
  (strictTotal hv).sortedFrom_eq_of_prefix (le_refl n) (unrank hv) (unrank_injective hv)
    (fun i j hij => by
      rw [decide_eq_false_iff_not, ← rank_lt_iff hv, rank_unrank, rank_unrank]
      exact not_lt.mpr hij.le)
    (fun i p hp => absurd ((rankEquiv hv).symm_apply_apply p) (hp _)) i

/-- Summing `f` over the first `m` places of the descending sort sums it over the `m` greatest. -/
theorem sum_sorted (hv : Function.Injective v) (m : ℕ) (hm : m ≤ n) (f : Fin n → EReal) :
    (∑ j : Fin m, f (sortedFrom (fun k l : Fin n => decide (v l < v k)) (j.castLE hm))) = topSum v m f := by
  rw [topSum_eq hv m hm]
  exact Finset.sum_congr rfl fun j _ => by rw [sortedFrom_desc hv]

/-- Multiplying by a positive real number is strictly monotone. -/
theorem mul_strictMono {c : ℝ} (hc : 0 < c) : StrictMono fun a : EReal => a * (c : EReal) := by
  have h := EReal.strictMono_div_right_of_pos (b := ((c⁻¹ : ℝ) : EReal)) (by exact_mod_cast inv_pos.mpr hc)
    (EReal.coe_ne_top _)
  refine (funext fun a => ?_ : (fun a : EReal => a / ((c⁻¹ : ℝ) : EReal)) = fun a => a * (c : EReal)) ▸ h
  show a * ((c⁻¹ : ℝ) : EReal)⁻¹ = _
  rw [← EReal.coe_inv, inv_inv]

end Cert.TopK
-- ==== Proof.Consts.lean ====
/-
  The constants the two programs spell, at the extended reals

A program spells a float constant by its bits. Here is the number each of them stands for, and the
value the ideal kernel's three named constants take.
-/
module

public import proofs.«01_k».proof.Proof.Gen.KernelIdeal.Skeleton
public import Idealize.ShloMosaic.PureOps.IdealRules
public import Idealize.ShloMosaic.Lib.Tactic

@[expose] public section

noncomputable section

namespace Cert.Consts

open Idealize.ShloMosaic

/-- `512`. -/
theorem c512 : Ideal.ofBits .f32 0x44000000#32 = ((512 : ℝ) : EReal) := by
  simp [Ideal.ofBits, Ideal.ieee, -EReal.coe_mul]; norm_num
/-- `33`, the number of memory slots kept. -/
theorem c33 : Ideal.ofBits .f32 0x42040000#32 = ((33 : ℝ) : EReal) := by
  simp [Ideal.ofBits, Ideal.ieee, -EReal.coe_mul]; norm_num
/-- `17`, the number of time steps kept. -/
theorem c17 : Ideal.ofBits .f32 0x41880000#32 = ((17 : ℝ) : EReal) := by
  simp [Ideal.ofBits, Ideal.ieee, -EReal.coe_mul]; norm_num
/-- `32`, the number of pairs. -/
theorem c32 : Ideal.ofBits .f32 0x42000000#32 = ((32 : ℝ) : EReal) := by
  simp [Ideal.ofBits, Ideal.ieee, -EReal.coe_mul]; norm_num
/-- `1`. -/
theorem c1 : Ideal.ofBits .f32 0x3F800000#32 = ((1 : ℝ) : EReal) := by
  simp [Ideal.ofBits, Ideal.ieee, -EReal.coe_mul]; norm_num
/-- `100`, the margin of the distance loss. -/
theorem c100 : Ideal.ofBits .f32 0x42C80000#32 = ((100 : ℝ) : EReal) := by
  simp [Ideal.ofBits, Ideal.ieee, -EReal.coe_mul]; norm_num
/-- `16384 = 32 · 512`. -/
theorem c16384 : Ideal.ofBits .f32 0x46800000#32 = ((16384 : ℝ) : EReal) := by
  simp [Ideal.ofBits, Ideal.ieee, -EReal.coe_mul]; norm_num
/-- `-1/2`. -/
theorem cNegHalf : Ideal.ofBits .f32 0xBF000000#32 = ((-(1/2) : ℝ) : EReal) := by
  simp [Ideal.ofBits, Ideal.ieee, -EReal.coe_mul]; norm_num
/-- `1/32`. -/
theorem cInv32 : Ideal.ofBits .f32 0x3D000000#32 = ((1/32 : ℝ) : EReal) := by
  simp [Ideal.ofBits, Ideal.ieee, -EReal.coe_mul]; norm_num
/-- `-1/32768`. -/
theorem cKl : Ideal.ofBits .f32 0xB8000000#32 = ((-(1/32768) : ℝ) : EReal) := by
  simp [Ideal.ofBits, Ideal.ieee, -EReal.coe_mul]; norm_num
/-- Minus infinity. -/
theorem cBot : Ideal.ofBits .f32 0xFF800000#32 = ⊥ := by
  simp [Ideal.ofBits, Ideal.ieee]

/-- The value a struck-out entry takes in the kernel's search for the largest ones. -/
abbrev low : EReal := Ideal.ofBits .f32 0xF149F2CA#32

/-- The struck-out value is below `0`. -/
theorem low_neg : low < 0 := by
  have h : low = ((-(13234890 * 2 ^ 76) : ℝ) : EReal) := by
    simp [low, Ideal.ofBits, Ideal.ieee, -EReal.coe_mul]
  rw [h, ← EReal.coe_zero, EReal.coe_lt_coe_iff]; norm_num

/-- The kernel's `inv_sqrt_d` is `1/√512`. -/
theorem inv_sqrt_d : Named.named (F := Ideal) Cert.KernelIdeal.κ "inv_sqrt_d" (φ := .f32) 0x3D3504F3#32
    = (((Real.sqrt 512)⁻¹ : ℝ) : EReal) :=
  IdealRules.named_const.ideal_named_scalar _ _ _ _ rfl
/-- The kernel's `inv_k_slot` is `1/33`. -/
theorem inv_k_slot : Named.named (F := Ideal) Cert.KernelIdeal.κ "inv_k_slot" (φ := .f32) 0x3CF83E10#32
    = ((1/33 : ℝ) : EReal) :=
  IdealRules.named_const.ideal_named_scalar _ _ _ _ rfl
/-- The kernel's `inv_k_t` is `1/17`. -/
theorem inv_k_t : Named.named (F := Ideal) Cert.KernelIdeal.κ "inv_k_t" (φ := .f32) 0x3D70F0F1#32
    = ((1/17 : ℝ) : EReal) :=
  IdealRules.named_const.ideal_named_scalar _ _ _ _ rfl

end Cert.Consts
-- ==== Proof.Ops.lean ====
/-
  The kernel's reductions and products, read at an index over the extended reals.

  A maximum along an axis is the `top` of that row, a sum along an axis the sum over its coordinate, a matrix product into
  a zero accumulator the sum of products; and the three indicators the kernel forms (a comparison turned into a number)
  are `1` or `0`.
-/
module

public import proofs.«01_k».proof.Proof.TopK
public import proofs.«01_k».proof.Proof.Consts
public import Idealize.ShloMosaic.PureOps.Ideal.Laws
public import Idealize.ShloMosaic.Lib.Pipeline.Value
public import Idealize.ShloMosaic.Lib.ValueIdxCore
public import Idealize.ShloMosaic.Lib.Tactic

@[expose] public section

noncomputable section

open Idealize.ShloMosaic Idealize.ShloMosaic.ValueIdx

namespace Cert.Ops

variable {a b n : ℕ}

/-- The index a sum along the second axis of a matrix reads. -/
theorem lift_row (h : Shape.Reduces ⟨2, ![a, b]⟩ [1] ⟨1, ![a]⟩) (r : Fin a) (k : Fin b) : h.lift (ix1 r) k = ix2 r k := by
  funext d; match d with
  | ⟨0, _⟩ => exact Fin.ext ((Shape.Reduces.lift_val h _ _ _).trans rfl)
  | ⟨1, _⟩ => exact Fin.ext ((Shape.Reduces.lift_val h _ _ _).trans rfl)

/-- The index a sum along the first axis of a matrix reads. -/
theorem lift_col (h : Shape.Reduces ⟨2, ![a, b]⟩ [0] ⟨1, ![b]⟩) (r : Fin b) (k : Fin a) : h.lift (ix1 r) k = ix2 k r := by
  funext d; match d with
  | ⟨0, _⟩ => exact Fin.ext ((Shape.Reduces.lift_val h _ _ _).trans rfl)
  | ⟨1, _⟩ => exact Fin.ext ((Shape.Reduces.lift_val h _ _ _).trans rfl)

/-- A sum along the second axis. -/
theorem rowSum (x : FVec Ideal ⟨2, ![a, b]⟩ .f32) (bits) (h : Shape.Reduces ⟨2, ![a, b]⟩ [1] ⟨1, ![a]⟩) (hφ) (hacc) (r : Fin a) :
    multiReduction .add [1] ⟨1, ![a]⟩ x bits h hφ hacc (ix1 r) = ∑ k : Fin b, x (ix2 r k) :=
  (Ideal.multiReduction_add_single x bits h hφ hacc _).trans (Finset.sum_congr rfl fun k _ => congrArg x (lift_row h r k))

/-- A sum along the first axis. -/
theorem colSum (x : FVec Ideal ⟨2, ![a, b]⟩ .f32) (bits) (h : Shape.Reduces ⟨2, ![a, b]⟩ [0] ⟨1, ![b]⟩) (hφ) (hacc) (r : Fin b) :
    multiReduction .add [0] ⟨1, ![b]⟩ x bits h hφ hacc (ix1 r) = ∑ k : Fin a, x (ix2 k r) :=
  (Ideal.multiReduction_add_single x bits h hφ hacc _).trans (Finset.sum_congr rfl fun k _ => congrArg x (lift_col h r k))

/-- A maximum along the second axis, from minus infinity. -/
theorem rowMax (x : FVec Ideal ⟨2, ![a, b]⟩ .f32) (h : Shape.Reduces ⟨2, ![a, b]⟩ [1] ⟨1, ![a]⟩) (hφ) (hacc) (r : Fin a) :
    multiReduction .maximumf [1] ⟨1, ![a]⟩ x 0xFF800000#32 h hφ hacc (ix1 r) = TopK.top fun k : Fin b => x (ix2 r k) := by
  refine (Ideal.multiReduction_maximumf_single x _ h hφ hacc _).trans ?_
  rw [show (FloatOps.ofBits .f32 0xFF800000#32 : Ideal .f32) = ⊥ from Consts.cBot]
  exact congrArg (Finset.univ.fold max ⊥) (funext fun k => congrArg x (lift_row h r k))

/-- A maximum along the first axis, from minus infinity. -/
theorem colMax (x : FVec Ideal ⟨2, ![a, b]⟩ .f32) (h : Shape.Reduces ⟨2, ![a, b]⟩ [0] ⟨1, ![b]⟩) (hφ) (hacc) (r : Fin b) :
    multiReduction .maximumf [0] ⟨1, ![b]⟩ x 0xFF800000#32 h hφ hacc (ix1 r) = TopK.top fun k : Fin a => x (ix2 k r) := by
  refine (Ideal.multiReduction_maximumf_single x _ h hφ hacc _).trans ?_
  rw [show (FloatOps.ofBits .f32 0xFF800000#32 : Ideal .f32) = ⊥ from Consts.cBot]
  exact congrArg (Finset.univ.fold max ⊥) (funext fun k => congrArg x (lift_col h r k))

/-- A plain matrix product into zero. -/
theorem dot {φ₁ φ₂ : FTy} (prec : Option ContractPrecision) (x : FVec Ideal ⟨2, ![a, n]⟩ φ₁) (y : FVec Ideal ⟨2, ![n, b]⟩ φ₂)
    (r : Fin a) (c : Fin b) :
    FloatOps.matmul (DotDims.plain a n b) prec x y (constant (F := Ideal) ⟨2, ![a, b]⟩ .f32 0x00000000#32) (ix2 r c)
      = ∑ k : Fin n, x (ix2 r k) * y (ix2 k c) := by
  rw [Ideal.matmul_constant_zero_apply]
  refine ((contrEquiv1 (DotDims.plain a n b) n rfl rfl).symm.sum_comp _).symm.trans (Finset.sum_congr rfl fun k _ => ?_)
  congr 1
  · refine congrArg x (funext fun d => ?_)
    match d with
    | ⟨0, _⟩ => exact Fin.ext (by simp [DotDims.lhsIdx, DotDims.plain]; rfl)
    | ⟨1, _⟩ => exact Fin.ext (by simp [DotDims.lhsIdx, DotDims.plain]; rfl)
  · refine congrArg y (funext fun d => ?_)
    match d with
    | ⟨0, _⟩ => exact Fin.ext (by simp [DotDims.rhsIdx, DotDims.plain]; rfl)
    | ⟨1, _⟩ => exact Fin.ext (by simp [DotDims.rhsIdx, DotDims.plain]; rfl)

/-- A bit widened to a word and turned into a number is `1` or `0`. -/
theorem indicator (p : Prop) [Decidable p] (w : BitVec 1) (hw : w = 1#1 ↔ p) :
    (FloatOps.sitofp .f32 (w.setWidth 32) : Ideal .f32) = if p then (1 : EReal) else 0 := by
  show (((w.setWidth 32).toInt : ℝ) : EReal) = _
  by_cases h : p
  · rw [if_pos h, hw.2 h]; simp
  · rw [if_neg h, eq_zero_of_ne_one (fun e => h (hw.1 e))]; simp

/-- An ordered "greater" is the order's. -/
theorem ogt_iff (x y : Ideal .f32) : FloatOps.cmpf .ogt x y = 1#1 ↔ (y : EReal) < x := by
  show BitVec.ofBool (decide ((y : EReal) < x)) = 1#1 ↔ _
  by_cases h : (y : EReal) < x <;> simp [h]
/-- An ordered "equal" is equality. -/
theorem oeq_iff (x y : Ideal .f32) : FloatOps.cmpf .oeq x y = 1#1 ↔ (x : EReal) = y := by
  show BitVec.ofBool (decide ((x : EReal) = y)) = 1#1 ↔ _
  by_cases h : (x : EReal) = y <;> simp [h]
/-- An ordered "at most" is the order's. -/
theorem ole_iff (x y : Ideal .f32) : FloatOps.cmpf .ole x y = 1#1 ↔ (x : EReal) ≤ y := by
  show BitVec.ofBool (decide ((x : EReal) ≤ y)) = 1#1 ↔ _
  by_cases h : (x : EReal) ≤ y <;> simp [h]

variable {α : Type}

/-- A vector laid out as a column. -/
theorem cast_col (x : Shape.Idx ⟨1, ![a]⟩ → α) (h : Shape.ShapeCasts ⟨1, ![a]⟩ ⟨2, ![a, 1]⟩) (r : Fin a) (z : Fin 1) :
    shapeCast ⟨2, ![a, 1]⟩ x h (ix2 r z) = x (ix1 r) :=
  shapeCast_apply x h _ _ (by
    rw [Shape.rowMajor_val_one, Shape.rowMajor_val_two]
    show r.val = r.val * 1 + z.val
    have := z.isLt; omega)

/-- A vector laid out as a row. -/
theorem cast_row (x : Shape.Idx ⟨1, ![a]⟩ → α) (h : Shape.ShapeCasts ⟨1, ![a]⟩ ⟨2, ![1, a]⟩) (z : Fin 1) (r : Fin a) :
    shapeCast ⟨2, ![1, a]⟩ x h (ix2 z r) = x (ix1 r) :=
  shapeCast_apply x h _ _ (by
    rw [Shape.rowMajor_val_one, Shape.rowMajor_val_two]
    show r.val = z.val * a + r.val
    have : z.val = 0 := by have := z.isLt; omega
    rw [this]; omega)

/-- A column repeated along the rows. -/
theorem bcast_col (x : Shape.Idx ⟨2, ![a, 1]⟩ → α) (h : Shape.Broadcasts ⟨2, ![a, 1]⟩ ⟨2, ![a, b]⟩) (r : Fin a) (k : Fin b) :
    broadcastTo ⟨2, ![a, b]⟩ x h (ix2 r k) = x (ix2 r 0) :=
  broadcastTo_apply x h _ _ fun d => by
    match d with
    | ⟨0, _⟩ =>
      show r.val = if a = 1 then 0 else r.val
      have := r.isLt; split <;> omega
    | ⟨1, _⟩ => rfl

/-- A row repeated along the columns. -/
theorem bcast_row (x : Shape.Idx ⟨2, ![1, b]⟩ → α) (h : Shape.Broadcasts ⟨2, ![1, b]⟩ ⟨2, ![a, b]⟩) (r : Fin a) (k : Fin b) :
    broadcastTo ⟨2, ![a, b]⟩ x h (ix2 r k) = x (ix2 0 k) :=
  broadcastTo_apply x h _ _ fun d => by
    match d with
    | ⟨0, _⟩ => rfl
    | ⟨1, _⟩ =>
      show k.val = if b = 1 then 0 else k.val
      have := k.isLt; split <;> omega

end Cert.Ops
-- ==== Proof.Spec.lean ====
/-
  The memory bank of one pair of samples, as plain mathematics over the extended reals.

  A pair is a normal sample `nx` and an abnormal sample `ax`, each 256 time steps of 512 features, with the noise `ep` of
  the normal one. `AM` and `NM` are the two memories of 512 slots, `WM`, `bm`, `WV`, `bv` the weights and biases of the
  two affine maps. The definitions below say row by row what is computed of them; both programs are shown to compute it.
-/
module

public import proofs.«01_k».proof.Proof.TopK
public import proofs.«01_k».proof.Proof.Consts

@[expose] public section

noncomputable section

open Idealize.ShloMosaic

namespace Cert.Spec

/-- A row of 512 features. -/
abbrev Row := Fin 512 → EReal
/-- A square array of 512 rows. -/
abbrev Mat := Fin 512 → Row
/-- A sample: 256 rows. -/
abbrev Sample := Fin 256 → Row

/-- The attention of a row to slot `k` of a memory: the logistic of the scaled inner product. -/
def att (M : Mat) (x : Row) (k : Fin 512) : EReal :=
  Ideal.logistic ((∑ d, x d * M k d) * (((Real.sqrt 512)⁻¹ : ℝ) : EReal))

/-- The memory read back with the attention as weights. -/
def aug (M : Mat) (x : Row) (e : Fin 512) : EReal := ∑ k, att M x k * M k e

/-- An affine map: the weights are applied transposed. -/
def lin (W : Mat) (b : Row) (y : Row) (e : Fin 512) : EReal := (∑ d, y d * W e d) + b e

/-- The sum of the 33 largest attentions of a row. -/
def slotSum (M : Mat) (x : Row) : EReal := TopK.topSum (att M x) 33 (att M x)

/-- The temporal attention of a row: the mean of its 33 largest attentions. -/
def tatt (M : Mat) (x : Row) : EReal := slotSum M x * ((1/33 : ℝ) : EReal)

/-- The mean of the rows of `y` at the 17 time steps where `τ` is largest. -/
def pool (τ : Fin 256 → EReal) (y : Sample) (e : Fin 512) : EReal :=
  TopK.topSum τ 17 (fun t => y t e) * ((1/17 : ℝ) : EReal)

/-- The length of a row. -/
def norm (x : Row) : EReal := Ideal.sqrt (∑ e, x e * x e)

/-- A row divided by its length. -/
def unit (x : Row) (e : Fin 512) : EReal := Ideal.div (x e) (norm x)

/-- The distance of two rows, each difference moved by the constant the triplet loss adds. -/
def gap (x y : Row) : EReal :=
  Ideal.sqrt (∑ e, (x e - y e + Ideal.ofBits .f32 0x358637BD#32) * (x e - y e + Ideal.ofBits .f32 0x358637BD#32))

/-- What one pair is computed from. -/
structure Args where
  nx : Sample
  ax : Sample
  ep : Sample
  AM : Mat
  NM : Mat
  WM : Mat
  WV : Mat
  bm : Row
  bv : Row

namespace Args
variable (a : Args)

/-- The normal sample's mean, from the normal memory. -/
def mu : Sample := fun t => lin a.WM a.bm (aug a.NM (a.nx t))
/-- The normal sample's logarithmic variance. -/
def var : Sample := fun t => lin a.WV a.bv (aug a.NM (a.nx t))
/-- The normal sample resampled: mean plus noise times deviation. -/
def newN : Sample := fun t e => a.mu t e + a.ep t e * Ideal.sqrt (Ideal.exp (a.var t e))
/-- The normal sample from the abnormal memory. -/
def memN : Sample := fun t => lin a.WM a.bm (aug a.AM (a.nx t))
/-- The abnormal sample from the abnormal memory. -/
def newA : Sample := fun t => lin a.WM a.bm (aug a.AM (a.ax t))
/-- The abnormal sample from the normal memory. -/
def memA : Sample := fun t => lin a.WM a.bm (aug a.NM (a.ax t))

/-- The four temporal attentions: abnormal sample with abnormal memory, … -/
def tAA (t : Fin 256) : EReal := tatt a.AM (a.ax t)
/-- … normal sample with normal memory, … -/
def tNN (t : Fin 256) : EReal := tatt a.NM (a.nx t)
/-- … normal sample with abnormal memory, … -/
def tAN (t : Fin 256) : EReal := tatt a.AM (a.nx t)
/-- … and abnormal sample with normal memory. -/
def tNA (t : Fin 256) : EReal := tatt a.NM (a.ax t)

/-- The pair's triplet loss. -/
def triplet : EReal :=
  max (gap (unit (pool a.tNN a.nx)) (unit (pool a.tNA a.ax)) - gap (unit (pool a.tNN a.nx)) (unit (pool a.tAA a.ax))
    + ((1 : ℝ) : EReal)) 0

/-- The pair's distance loss. -/
def distance : EReal :=
  max (((100 : ℝ) : EReal) - norm (pool a.tAA a.newA) + norm (pool a.tNN a.newN)) 0

/-- One term of the divergence. -/
def klTerm (t : Fin 256) (e : Fin 512) : EReal :=
  ((1 : ℝ) : EReal) + a.var t e - a.mu t e * a.mu t e - Ideal.exp (a.var t e)

/-- The pair's divergence, summed. -/
def kl : EReal := ∑ t, ∑ e, a.klTerm t e

/-- No two slots of a row attract it equally: for a memory and a sample. -/
def RowsDistinct (M : Mat) (x : Sample) : Prop := ∀ t, Function.Injective (att M (x t))
/-- No two time steps have the same sum of attentions. -/
def TimesDistinct (M : Mat) (x : Sample) : Prop := Function.Injective fun t => slotSum M (x t)

end Args

end Cert.Spec
-- ==== Proof.Select.lean ====
/-
  The kernel's two selections, read over the extended reals.

  For every row of a 512×512 array of different values the kernel finds the 33 greatest by striking out 32 maxima and
  taking the 33rd as a threshold; the mean it forms is the mean of the 33 greatest (`slotMean`). For a column of 256
  different values it marks the 17 greatest the same way (`timeMask`), and the pooled rows are the mean over the marked
  ones (`pooled`).
-/
module

public import proofs.«01_k».proof.Proof.Ops
public import proofs.«01_k».proof.Proof.Spec

@[expose] public section

noncomputable section

open Idealize.ShloMosaic Idealize.ShloMosaic.ValueIdx

namespace Cert.KernelIdeal.Select

open Cert.KernelIdeal Cert.KernelIdeal.Gen Cert.TopK Cert.Consts

/-- One pass over the slots strikes every row's maximum out. -/
theorem strikeRow (X : FVec Ideal S512x512 .f32) (r k : Fin 512) :
    k0_pay16 (F := Ideal) X (ix2 r k) = step low (fun l => X (ix2 r l)) k := by
  have hm : broadcastTo S512x512 (shapeCast S512x1 (multiReduction .maximumf [1] S512 X 0xFF800000#32 reduces_S512x512_S512
      (.inl rfl) rfl) shapeCasts_S512_S512x1) broadcasts_S512x1_S512x512 (ix2 r k) = top fun l => X (ix2 r l) :=
    (Ops.bcast_col _ _ r k).trans ((Ops.cast_col _ _ r 0).trans (Ops.rowMax X _ _ _ r))
  unfold step
  rw [← hm]
  by_cases h : X (ix2 r k) = broadcastTo S512x512 (shapeCast S512x1 (multiReduction .maximumf [1] S512 X 0xFF800000#32
      reduces_S512x512_S512 (.inl rfl) rfl) shapeCasts_S512_S512x1) broadcasts_S512x1_S512x512 (ix2 r k)
  · rw [if_pos h]
    exact (congrArg (fun c => Scalar.select c _ _) ((Ops.oeq_iff _ _).2 h)).trans (select_one _ _)
  · rw [if_neg h]
    exact (congrArg (fun c => Scalar.select c _ _) (eq_zero_of_ne_one fun e => h ((Ops.oeq_iff _ _).1 e))).trans
      (select_zero _ _)

/-- Repeated passes over the slots, row by row. -/
theorem strikeRows (X : FVec Ideal S512x512 .f32) (r : Fin 512) (m : ℕ) :
    (fun k => (k0_pay16 (F := Ideal))^[m] X (ix2 r k)) = (step low)^[m] (fun l => X (ix2 r l)) := by
  induction m with
  | zero => rfl
  | succ m ih =>
    rw [Function.iterate_succ_apply', Function.iterate_succ_apply', ← ih]
    exact funext fun k => strikeRow _ r k

/-- The mean of the 33 greatest entries of a row. -/
theorem slotMean (X : FVec Ideal S512x512 .f32) (v : Fin 512 → EReal) (r : Fin 512) (hv : Function.Injective v)
    (hL : ∀ k, low < v k) (hX : ∀ k, X (ix2 r k) = v k) :
    k0_pay17 (F := Ideal) X (k0_pay16^[32] X) (ix2 r 0) = topSum v 33 v * ((1/33 : ℝ) : EReal) := by
  have hXv : (fun l => X (ix2 r l)) = v := funext hX
  set Y := (k0_pay16 (F := Ideal))^[32] X with hY
  set T := shapeCast S512x1 (multiReduction .maximumf [1] S512 Y 0xFF800000#32 reduces_S512x512_S512 (.inl rfl) rfl)
    shapeCasts_S512_S512x1 with hT
  have ht : T (ix2 r 0) = v (unrank hv ⟨32, by decide⟩) := by
    refine (Ops.cast_col _ _ r 0).trans ((Ops.rowMax Y _ _ _ r).trans ?_)
    rw [hY, strikeRows X r 32, hXv]
    exact top_iterate hv hL ⟨32, by decide⟩
  set G : FVec Ideal S512x512 .f32 := sitofp .f32 (extui 32 (cmpf .ogt X (broadcastTo S512x512 T broadcasts_S512x1_S512x512))
    natLt_1_32) with hG
  have hg : ∀ k, G (ix2 r k) = if rank v k < 32 then (1 : EReal) else 0 := fun k => by
    refine Ops.indicator _ _ ((Ops.ogt_iff _ _).trans ?_)
    rw [Ops.bcast_col, ht, hX]
    exact gt_iff hv ⟨32, by decide⟩ k
  have hc : shapeCast S512x1 (multiReduction .add [1] S512 G 0x00000000#32 reduces_S512x512_S512 (.inl rfl) rfl)
      shapeCasts_S512_S512x1 (ix2 r 0) = ((32 : ℝ) : EReal) := by
    refine (Ops.cast_col _ _ r 0).trans ((Ops.rowSum G _ _ _ _ r).trans ?_)
    rw [Finset.sum_congr rfl fun k _ => hg k]
    exact_mod_cast count_rank hv 32 (by decide)
  have hs : shapeCast S512x1 (multiReduction .add [1] S512 (mulf X G) 0x00000000#32 reduces_S512x512_S512 (.inl rfl) rfl)
      shapeCasts_S512_S512x1 (ix2 r 0) = topSum v 32 v := by
    refine (Ops.cast_col _ _ r 0).trans ((Ops.rowSum (mulf X G) _ _ _ _ r).trans (Finset.sum_congr rfl fun k _ => ?_))
    show X (ix2 r k) * G (ix2 r k) = _
    rw [hg, hX]
    split <;> simp
  show (shapeCast S512x1 (multiReduction .add [1] S512 (mulf X G) 0x00000000#32 reduces_S512x512_S512 (.inl rfl) rfl)
      shapeCasts_S512_S512x1 (ix2 r 0) + T (ix2 r 0) * (Ideal.ofBits .f32 0x42040000#32
        - shapeCast S512x1 (multiReduction .add [1] S512 G 0x00000000#32 reduces_S512x512_S512 (.inl rfl) rfl)
          shapeCasts_S512_S512x1 (ix2 r 0)))
      * Named.named (F := Ideal) Cert.KernelIdeal.κ "inv_k_slot" (φ := .f32) 0x3CF83E10#32 = _
  rw [hs, hc, ht, c33, inv_k_slot, ← EReal.coe_sub, show ((33 : ℝ) - 32) = 1 by norm_num, EReal.coe_one, mul_one,
    topSum_succ hv ⟨32, by decide⟩ v]

/-- One pass over the times strikes the column's maximum out. -/
theorem strikeCol (x : FVec Ideal S256x1 .f32) (t : Fin 256) :
    k0_pay30 (F := Ideal) x (ix2 t 0) = step low (fun l => x (ix2 l 0)) t := by
  have hm : broadcastTo S256x1 (shapeCast S1x1 (multiReduction .maximumf [0] S1 x 0xFF800000#32 reduces_S256x1_S1
      (.inl rfl) rfl) shapeCasts_S1_S1x1) broadcasts_S1x1_S256x1 (ix2 t 0) = top fun l => x (ix2 l 0) :=
    (Ops.bcast_row _ _ t 0).trans ((Ops.cast_row _ _ 0 0).trans (Ops.colMax x _ _ _ 0))
  unfold step
  rw [← hm]
  by_cases h : x (ix2 t 0) = broadcastTo S256x1 (shapeCast S1x1 (multiReduction .maximumf [0] S1 x 0xFF800000#32
      reduces_S256x1_S1 (.inl rfl) rfl) shapeCasts_S1_S1x1) broadcasts_S1x1_S256x1 (ix2 t 0)
  · rw [if_pos h]
    exact (congrArg (fun c => Scalar.select c _ _) ((Ops.oeq_iff _ _).2 h)).trans (select_one _ _)
  · rw [if_neg h]
    exact (congrArg (fun c => Scalar.select c _ _) (eq_zero_of_ne_one fun e => h ((Ops.oeq_iff _ _).1 e))).trans
      (select_zero _ _)

/-- Repeated passes over the times. -/
theorem strikeCols (x : FVec Ideal S256x1 .f32) (m : ℕ) :
    (fun t => (k0_pay30 (F := Ideal))^[m] x (ix2 t 0)) = (step low)^[m] (fun l => x (ix2 l 0)) := by
  induction m with
  | zero => rfl
  | succ m ih =>
    rw [Function.iterate_succ_apply', Function.iterate_succ_apply', ← ih]
    exact funext fun k => strikeCol _ k

/-- An entry of the triangle of ones is `1` or `0`. -/
theorem triangle (t s : Fin 256) : ∃ p : Prop, ∃ _ : Decidable p,
    k0_pay29 (F := Ideal) (ix2 t s) = if p then (1 : EReal) else 0 :=
  ⟨_, inferInstance, Ops.indicator _ _ Iff.rfl⟩

/-- The marks of the 17 greatest entries of a column. -/
theorem timeMask (x : FVec Ideal S256x1 .f32) (τ : Fin 256 → EReal) (hτ : Function.Injective τ) (hL : ∀ t, low < τ t)
    (hx : ∀ t, x (ix2 t 0) = τ t) (t : Fin 256) :
    k0_pay31 (F := Ideal) x (k0_pay30^[16] x) (ix2 t 0) = if rank τ t < 17 then (1 : EReal) else 0 := by
  have hxτ : (fun l => x (ix2 l 0)) = τ := funext hx
  set y := (k0_pay30 (F := Ideal))^[16] x with hy
  set T := shapeCast S1x1 (multiReduction .maximumf [0] S1 y 0xFF800000#32 reduces_S256x1_S1 (.inl rfl) rfl)
    shapeCasts_S1_S1x1 with hT
  have ht : ∀ l, broadcastTo S256x1 T broadcasts_S1x1_S256x1 (ix2 l 0) = τ (unrank hτ ⟨16, by decide⟩) := fun l => by
    refine (Ops.bcast_row _ _ l 0).trans ((Ops.cast_row _ _ 0 0).trans ((Ops.colMax y _ _ _ 0).trans ?_))
    rw [hy, strikeCols x 16, hxτ]
    exact top_iterate hτ hL ⟨16, by decide⟩
  set gt := cmpf .ogt x (broadcastTo S256x1 T broadcasts_S1x1_S256x1) with hgt
  set eq := cmpf .oeq x (broadcastTo S256x1 T broadcasts_S1x1_S256x1) with heq
  have hg : ∀ l, gt (ix2 l 0) = 1#1 ↔ rank τ l < 16 := fun l => by
    refine (Ops.ogt_iff _ _).trans ?_
    rw [ht, hx]
    exact gt_iff hτ ⟨16, by decide⟩ l
  have he : ∀ l, eq (ix2 l 0) = 1#1 ↔ rank τ l = 16 := fun l => by
    refine (Ops.oeq_iff _ _).trans ?_
    rw [ht, hx]
    exact eq_iff hτ ⟨16, by decide⟩ l
  set E : FVec Ideal S256x1 .f32 := sitofp .f32 (extui 32 eq natLt_1_32) with hE
  set C := shapeCast S1x1 (multiReduction .add [0] S1 (sitofp .f32 (extui 32 gt natLt_1_32) : FVec Ideal S256x1 .f32)
      0x00000000#32 reduces_S256x1_S1 (.inl rfl) rfl) shapeCasts_S1_S1x1 with hC
  have hc : C (ix2 0 0) = ((16 : ℝ) : EReal) := by
    refine (Ops.cast_row _ _ 0 0).trans ((Ops.colSum _ _ _ _ _ 0).trans ?_)
    refine (Finset.sum_congr rfl fun k _ => Ops.indicator _ _ (hg k)).trans ?_
    exact_mod_cast count_rank hτ 16 (by decide)
  set M := FloatOps.matmul dot_S256x256_S256x1_S256x1_1_0_0_1_n_n (some .fp32) (k0_pay29 (F := Ideal)) E
    (constant (F := Ideal) S256x1 .f32 0x00000000#32) with hM
  have hm : M (ix2 t 0) ≤ ((1 : ℝ) : EReal) := by
    refine (Ops.dot (a := 256) (n := 256) (b := 1) (some .fp32) (k0_pay29 (F := Ideal)) E t 0).trans_le ?_
    have hb : ∀ k, (k0_pay29 (F := Ideal) (ix2 t k) : EReal) * E (ix2 k 0) ≤ if k = unrank hτ ⟨16, by decide⟩ then 1 else 0 := fun k => by
      obtain ⟨p, _, hp⟩ := triangle t k
      rw [hp, show E (ix2 k 0) = if rank τ k = 16 then (1 : EReal) else 0 from Ops.indicator _ _ (he k)]
      have hk : rank τ k = 16 ↔ k = unrank hτ ⟨16, by decide⟩ :=
        (eq_iff hτ ⟨16, by decide⟩ k).symm.trans hτ.eq_iff
      by_cases h : rank τ k = 16
      · rw [if_pos h, if_pos (hk.1 h)]; split <;> simp
      · rw [if_neg h, if_neg (fun e => h (hk.2 e)), mul_zero]
    refine (Finset.sum_le_sum fun k _ => hb k).trans ?_
    rw [Finset.sum_ite_eq' Finset.univ, if_pos (Finset.mem_univ _), EReal.coe_one]
  have hle : cmpf .ole M (broadcastTo S256x1 (subf (broadcast S1x1 (Scalar.ofBits (F := Ideal) .f32 0x41880000#32)) C)
      broadcasts_S1x1_S256x1) (ix2 t 0) = 1#1 := by
    refine (Ops.ole_iff _ _).2 (hm.trans_eq ?_)
    rw [Ops.bcast_row]
    show _ = Ideal.ofBits .f32 0x41880000#32 - C (ix2 0 0)
    rw [hc, c17, ← EReal.coe_sub]; norm_num
  refine Ops.indicator _ _ ?_
  show gt (ix2 t 0) ||| (eq (ix2 t 0) &&& cmpf .ole M (broadcastTo S256x1 (subf (broadcast S1x1 (Scalar.ofBits (F := Ideal) .f32 0x41880000#32)) C)
      broadcasts_S1x1_S256x1) (ix2 t 0)) = 1#1 ↔ _
  rw [hle]
  by_cases h1 : rank τ t < 16
  · rw [(hg t).2 h1]
    exact iff_of_true (by generalize eq (ix2 t 0) = w; revert w; decide) (by omega)
  · rw [eq_zero_of_ne_one (fun e => h1 ((hg t).1 e))]
    by_cases h2 : rank τ t = 16
    · rw [(he t).2 h2]
      exact iff_of_true (by decide) (by omega)
    · rw [eq_zero_of_ne_one (fun e => h2 ((he t).1 e))]
      exact iff_of_false (by decide) (by omega)

/-- The mean of the marked rows. -/
theorem pooled (Y : FVec Ideal S256x512 .f32) (w : FVec Ideal S256x1 .f32) (τ : Fin 256 → EReal) (y : Spec.Sample)
    (hw : ∀ t, w (ix2 t 0) = if rank τ t < 17 then (1 : EReal) else 0) (hY : ∀ t e, Y (ix2 t e) = y t e) (e : Fin 512) :
    k0_pay39 (F := Ideal) Y w (ix2 0 e) = Spec.pool τ y e := by
  have hs : shapeCast S1x512 (multiReduction .add [0] S512 (mulf (broadcastTo S256x512 w broadcasts_S256x1_S256x512) Y)
      0x00000000#32 reduces_S256x512_S512 (.inl rfl) rfl) shapeCasts_S512_S1x512 (ix2 0 e)
      = topSum τ 17 fun t => y t e := by
    refine (Ops.cast_row _ _ 0 e).trans ((Ops.colSum _ _ _ _ _ e).trans (Finset.sum_congr rfl fun t _ => ?_))
    show broadcastTo S256x512 w broadcasts_S256x1_S256x512 (ix2 t e) * Y (ix2 t e) = _
    rw [Ops.bcast_col, hw, hY]
    split <;> simp
  show shapeCast S1x512 (multiReduction .add [0] S512 (mulf (broadcastTo S256x512 w broadcasts_S256x1_S256x512) Y)
      0x00000000#32 reduces_S256x512_S512 (.inl rfl) rfl) shapeCasts_S512_S1x512 (ix2 0 e)
      * Named.named (F := Ideal) Cert.KernelIdeal.κ "inv_k_t" (φ := .f32) 0x3D70F0F1#32 = _
  rw [hs, inv_k_t]
  rfl

end Cert.KernelIdeal.Select
-- ==== Proof.Block.lean ====
/-
  What one grid point computes, over the extended reals.

  `Holds a x0 … x8` says the nine input blocks hold the pair `a`, in the layout the kernel reads them. Under it each of
  the values of the body is the corresponding one of `Cert.Spec`, row by row; the selections need the rows (and, for the
  17 time steps, the sums) to be free of ties.
-/
module

public import proofs.«01_k».proof.Proof.Blocks
public import proofs.«01_k».proof.Proof.Select

@[expose] public section

noncomputable section

open Idealize.ShloMosaic Idealize.ShloMosaic.ValueIdx

namespace Cert.KernelIdeal.Block

open Cert.KernelIdeal Cert.KernelIdeal.Gen Cert.KernelIdeal.Blocks Cert.TopK Cert.Consts Cert.Spec

/-- The two samples of a pair, one above the other. -/
def row (a : Args) (r : Fin 512) : Row := if h : r.val < 256 then a.nx ⟨r.val, h⟩ else a.ax ⟨r.val - 256, by omega⟩

/-- A time step of the normal sample among the stacked rows. -/
abbrev lo (t : Fin 256) : Fin 512 := ⟨t.val, by omega⟩
/-- A time step of the abnormal sample among the stacked rows. -/
abbrev hi (t : Fin 256) : Fin 512 := ⟨256 + t.val, by omega⟩

/-- The first 256 rows of a pair are the normal sample's. -/
theorem row_lo (a : Args) (t : Fin 256) : row a (lo t) = a.nx t := dif_pos t.isLt
/-- The last 256 rows of a pair are the abnormal sample's. -/
theorem row_hi (a : Args) (t : Fin 256) : row a (hi t) = a.ax t :=
  (dif_neg (by show ¬ 256 + t.val < 256; omega)).trans
    (congrArg a.ax (Fin.ext (by show 256 + t.val - 256 = t.val; omega)))

/-- The nine blocks hold the pair `a`. -/
structure Holds (a : Args) (x0 : Vec Ideal S2x1x256x512 .f32) (x1 : Vec Ideal S1x256x512 .f32) (x2 x3 : Vec Ideal S512x512 .f32)
    (x4 : Vec Ideal S512x1024 .f32) (x5 x6 : Vec Ideal S512x512 .f32) (x7 x8 : Vec Ideal S1x512 .f32) : Prop where
  nx : ∀ t d, x0 (ix4 0 0 t d) = a.nx t d
  ax : ∀ t d, x0 (ix4 1 0 t d) = a.ax t d
  ep : ∀ t d, x1 (ix3 0 t d) = a.ep t d
  AM : ∀ k d, x2 (ix2 k d) = a.AM k d
  NM : ∀ k d, x3 (ix2 k d) = a.NM k d
  AMt : ∀ (d k : Fin 512), x4 (ix2 d ⟨k.val, by omega⟩) = a.AM k d
  NMt : ∀ (d k : Fin 512), x4 (ix2 d ⟨512 + k.val, by omega⟩) = a.NM k d
  WM : ∀ d e, x5 (ix2 d e) = a.WM e d
  WV : ∀ d e, x6 (ix2 d e) = a.WV e d
  bm : ∀ e, x7 (ix2 0 e) = a.bm e
  bv : ∀ e, x8 (ix2 0 e) = a.bv e

/-- A rectangle of a matrix cut at an offset. -/
theorem slice {α : Type} {A B a' b' : ℕ} (o p : ℕ) (x : Shape.Idx ⟨2, ![A, B]⟩ → α)
    (h : Shape.Slices ⟨2, ![A, B]⟩ ![o, p] ⟨2, ![a', b']⟩) (r : Fin a') (k : Fin b') (r' : Fin A) (k' : Fin B)
    (hr : r'.val = o + r.val) (hk : k'.val = p + k.val) :
    extractStridedSlice ⟨2, ![a', b']⟩ ![o, p] x h (ix2 r k) = x (ix2 r' k') :=
  extractStridedSlice_apply _ x h _ _ fun d => by
    match d with
    | ⟨0, _⟩ => exact hr
    | ⟨1, _⟩ => exact hk

section
variable {a : Args} {x0 : Vec Ideal S2x1x256x512 .f32} {x1 : Vec Ideal S1x256x512 .f32} {x2 x3 : Vec Ideal S512x512 .f32}
  {x4 : Vec Ideal S512x1024 .f32} {x5 x6 : Vec Ideal S512x512 .f32} {x7 x8 : Vec Ideal S1x512 .f32}
variable (H : Holds a x0 x1 x2 x3 x4 x5 x6 x7 x8)
include H

/-- The stacked rows. -/
theorem stacked (r d : Fin 512) : k0_pay7 (F := Ideal) x0 (ix2 r d) = row a r d := by
  unfold k0_pay7
  rw [shapeCast_self]
  by_cases h : r.val < 256
  · refine (shapeCast_apply x0 _ _ (ix4 0 0 ⟨r.val, h⟩ d) ?_).trans ((H.nx _ _).trans ?_)
    · rw [Shape.rowMajor_val_four, Shape.rowMajor_val_two]
      show ((0 * 1 + 0) * 256 + r.val) * 512 + d.val = r.val * 512 + d.val
      omega
    · rw [row, dif_pos h]
  · refine (shapeCast_apply x0 _ _ (ix4 1 0 ⟨r.val - 256, by omega⟩ d) ?_).trans ((H.ax _ _).trans ?_)
    · rw [Shape.rowMajor_val_four, Shape.rowMajor_val_two]
      show ((1 * 1 + 0) * 256 + (r.val - 256)) * 512 + d.val = r.val * 512 + d.val
      omega
    · rw [row, dif_neg h]

/-- The normal sample. -/
theorem normal (t : Fin 256) (d : Fin 512) : k0_pay8 (F := Ideal) x0 (ix2 t d) = a.nx t d :=
  (slice 0 0 _ slices_S512x512_o0_0_S256x512 t d (lo t) d (by simp) (by simp)).trans ((stacked H _ _).trans (by rw [row_lo]))
/-- The abnormal sample. -/
theorem abnormal (t : Fin 256) (d : Fin 512) : k0_pay9 (F := Ideal) x0 (ix2 t d) = a.ax t d :=
  (slice 256 0 _ slices_S512x512_o256_0_S256x512 t d (hi t) d rfl (by simp)).trans ((stacked H _ _).trans (by rw [row_hi]))

/-- The noise. -/
theorem noise (t : Fin 256) (d : Fin 512) : k0_pay10 (F := Ideal) x1 (ix2 t d) = a.ep t d :=
  (shapeCast_apply x1 _ _ (ix3 0 t d) (by
    rw [Shape.rowMajor_val_three, Shape.rowMajor_val_two]
    show (0 * 256 + t.val) * 512 + d.val = t.val * 512 + d.val
    omega)).trans (H.ep t d)

/-- A scaled inner product of a stacked row with a column of the two memories. -/
theorem scores (r : Fin 512) (c : Fin 1024) : k0_pay11 (F := Ideal) x0 x4 (ix2 r c)
    = (∑ d, row a r d * x4 (ix2 d c)) * (((Real.sqrt 512)⁻¹ : ℝ) : EReal) := by
  have h : k0_pay11 (F := Ideal) x0 x4 (ix2 r c) = FloatOps.matmul (DotDims.plain 512 512 1024) (some .fp32) (k0_pay7 (F := Ideal) x0)
      (shapeCast S512x1024 x4 shapeCasts_S512x1024_S512x1024) (constant (F := Ideal) ⟨2, ![512, 1024]⟩ .f32 0x00000000#32) (ix2 r c)
      * Named.named (F := Ideal) Cert.KernelIdeal.κ "inv_sqrt_d" (φ := .f32) 0x3D3504F3#32 := rfl
  rw [h, Ops.dot, inv_sqrt_d, shapeCast_self]
  congr 1
  exact Finset.sum_congr rfl fun d _ => by rw [stacked H]

/-- The attention of the stacked rows to the abnormal memory. -/
theorem attA (r k : Fin 512) : k0_pay12 (F := Ideal) x0 x4 (ix2 r k) = att a.AM (row a r) k := by
  have h : k0_pay12 (F := Ideal) x0 x4 (ix2 r k) = Ideal.logistic (k0_pay11 (F := Ideal) x0 x4 (ix2 r ⟨k.val, by omega⟩)) :=
    congrArg Ideal.logistic (slice 0 0 _ slices_S512x1024_o0_0_S512x512 r k r _ (by simp) (by simp))
  rw [h, scores H, att]
  simp only [H.AMt]

/-- The attention of the stacked rows to the normal memory. -/
theorem attN (r k : Fin 512) : k0_pay13 (F := Ideal) x0 x4 (ix2 r k) = att a.NM (row a r) k := by
  have h : k0_pay13 (F := Ideal) x0 x4 (ix2 r k) = Ideal.logistic (k0_pay11 (F := Ideal) x0 x4 (ix2 r ⟨512 + k.val, by omega⟩)) :=
    congrArg Ideal.logistic (slice 0 512 _ slices_S512x1024_o0_512_S512x512 r k r _ (by simp) (by simp))
  rw [h, scores H, att]
  simp only [H.NMt]

/-- The rows read back from the abnormal memory. -/
theorem readA (r e : Fin 512) : augA (F := Ideal) x0 x2 x4 (ix2 r e) = aug a.AM (row a r) e := by
  have h : augA (F := Ideal) x0 x2 x4 (ix2 r e) = FloatOps.matmul (DotDims.plain 512 512 512) none
      (truncf .bf16 (k0_pay12 (F := Ideal) x0 x4) bitsLt_bf16_f32) (truncf .bf16 x2 bitsLt_bf16_f32)
      (constant (F := Ideal) ⟨2, ![512, 512]⟩ .f32 0x00000000#32) (ix2 r e) := rfl
  rw [h, Ops.dot, aug]
  refine Finset.sum_congr rfl fun k _ => ?_
  show k0_pay12 (F := Ideal) x0 x4 (ix2 r k) * x2 (ix2 k e) = _
  rw [attA H, H.AM]

/-- The rows read back from the normal memory. -/
theorem readN (r e : Fin 512) : augN (F := Ideal) x0 x3 x4 (ix2 r e) = aug a.NM (row a r) e := by
  have h : augN (F := Ideal) x0 x3 x4 (ix2 r e) = FloatOps.matmul (DotDims.plain 512 512 512) none
      (truncf .bf16 (k0_pay13 (F := Ideal) x0 x4) bitsLt_bf16_f32) (truncf .bf16 x3 bitsLt_bf16_f32)
      (constant (F := Ideal) ⟨2, ![512, 512]⟩ .f32 0x00000000#32) (ix2 r e) := rfl
  rw [h, Ops.dot, aug]
  refine Finset.sum_congr rfl fun k _ => ?_
  show k0_pay13 (F := Ideal) x0 x4 (ix2 r k) * x3 (ix2 k e) = _
  rw [attN H, H.NM]

/-- The affine map of the mean, on any rows. -/
theorem mean (Y : FVec Ideal S512x512 .f32) (y : Fin 512 → Row) (hY : ∀ r d, Y (ix2 r d) = y r d) (r e : Fin 512) :
    k0_pay44 (F := Ideal) Y (k0_pay43 x7) x5 (ix2 r e) = lin a.WM a.bm (y r) e := by
  have h : k0_pay44 (F := Ideal) Y (k0_pay43 x7) x5 (ix2 r e) = FloatOps.matmul (DotDims.plain 512 512 512) none
      (truncf .bf16 Y bitsLt_bf16_f32) (truncf .bf16 (shapeCast S512x512 x5 shapeCasts_S512x512_S512x512) bitsLt_bf16_f32)
      (constant (F := Ideal) ⟨2, ![512, 512]⟩ .f32 0x00000000#32) (ix2 r e)
      + broadcastTo S512x512 (shapeCast S1x512 x7 shapeCasts_S1x512_S1x512) broadcasts_S1x512_S512x512 (ix2 r e) := rfl
  rw [h, Ops.dot, Ops.bcast_row, shapeCast_self, shapeCast_self, H.bm, lin]
  congr 1
  refine Finset.sum_congr rfl fun d _ => ?_
  show Y (ix2 r d) * x5 (ix2 d e) = _
  rw [hY, H.WM]

/-- The normal sample from the abnormal memory. -/
theorem memN (t : Fin 256) (e : Fin 512) : k0_pay46 (F := Ideal) (augA x0 x2 x4) (k0_pay43 x7) x5 (ix2 t e) = a.memN t e :=
  (slice 0 0 _ slices_S512x512_o0_0_S256x512 t e (lo t) e (by simp) (by simp)).trans ((mean H _ _ (readA H) _ _).trans (by rw [row_lo]; rfl))
/-- The abnormal sample from the abnormal memory. -/
theorem newA (t : Fin 256) (e : Fin 512) : k0_pay47 (F := Ideal) (augA x0 x2 x4) (k0_pay43 x7) x5 (ix2 t e) = a.newA t e :=
  (slice 256 0 _ slices_S512x512_o256_0_S256x512 t e (hi t) e rfl (by simp)).trans ((mean H _ _ (readA H) _ _).trans (by rw [row_hi]; rfl))
/-- The normal sample's mean. -/
theorem mu (t : Fin 256) (e : Fin 512) : k0_pay48 (F := Ideal) (augN x0 x3 x4) (k0_pay43 x7) x5 (ix2 t e) = a.mu t e :=
  (slice 0 0 _ slices_S512x512_o0_0_S256x512 t e (lo t) e (by simp) (by simp)).trans ((mean H _ _ (readN H) _ _).trans (by rw [row_lo]; rfl))
/-- The abnormal sample from the normal memory. -/
theorem memA (t : Fin 256) (e : Fin 512) : k0_pay49 (F := Ideal) (augN x0 x3 x4) (k0_pay43 x7) x5 (ix2 t e) = a.memA t e :=
  (slice 256 0 _ slices_S512x512_o256_0_S256x512 t e (hi t) e rfl (by simp)).trans ((mean H _ _ (readN H) _ _).trans (by rw [row_hi]; rfl))

/-- The normal sample's logarithmic variance. -/
theorem var (t : Fin 256) (e : Fin 512) : k0_pay50 (F := Ideal) (augN x0 x3 x4) x6 x8 (ix2 t e) = a.var t e := by
  have h : k0_pay50 (F := Ideal) (augN x0 x3 x4) x6 x8 (ix2 t e) = FloatOps.matmul (DotDims.plain 256 512 512) none
      (truncf .bf16 (extractStridedSlice S256x512 ![0, 0] (augN x0 x3 x4) slices_S512x512_o0_0_S256x512) bitsLt_bf16_f32)
      (truncf .bf16 (shapeCast S512x512 x6 shapeCasts_S512x512_S512x512) bitsLt_bf16_f32)
      (constant (F := Ideal) ⟨2, ![256, 512]⟩ .f32 0x00000000#32) (ix2 t e)
      + broadcastTo S256x512 (shapeCast S1x512 x8 shapeCasts_S1x512_S1x512) broadcasts_S1x512_S256x512 (ix2 t e) := rfl
  rw [h, Ops.dot, Ops.bcast_row, shapeCast_self, shapeCast_self, H.bv, Args.var, lin]
  congr 1
  refine Finset.sum_congr rfl fun d _ => ?_
  show extractStridedSlice S256x512 ![0, 0] (augN x0 x3 x4) slices_S512x512_o0_0_S256x512 (ix2 t d) * x6 (ix2 d e) = _
  rw [slice 0 0 _ slices_S512x512_o0_0_S256x512 t d (lo t) d (by simp) (by simp), readN H, H.WV, row_lo]

/-- The normal sample resampled. -/
theorem newN (t : Fin 256) (e : Fin 512) : Blocks.newN (F := Ideal) x0 x1 x3 x4 x5 x6 x7 x8 (ix2 t e) = a.newN t e := by
  show k0_pay48 (F := Ideal) (augN x0 x3 x4) (k0_pay43 x7) x5 (ix2 t e)
    + k0_pay10 (F := Ideal) x1 (ix2 t e) * Ideal.sqrt (Ideal.exp (k0_pay50 (F := Ideal) (augN x0 x3 x4) x6 x8 (ix2 t e))) = _
  rw [mu H, noise H, var H]
  rfl

/-- The divergence. -/
theorem kl : klBlock (F := Ideal) x0 x3 x4 x5 x6 x7 x8 = a.kl := by
  set Z : FVec Ideal S256x512 .f32 := subf (subf (k0_pay54 (augN x0 x3 x4) x6 x8)
    (k0_pay55 (augN x0 x3 x4) (k0_pay43 x7) x5)) (exp (k0_pay50 (augN x0 x3 x4) x6 x8)) with hZ
  have hz : ∀ t e, Z (ix2 t e) = a.klTerm t e := fun t e => by
    show Ideal.ofBits .f32 0x3F800000#32 + k0_pay50 (F := Ideal) (augN x0 x3 x4) x6 x8 (ix2 t e)
      - k0_pay48 (F := Ideal) (augN x0 x3 x4) (k0_pay43 x7) x5 (ix2 t e) * k0_pay48 (F := Ideal) (augN x0 x3 x4) (k0_pay43 x7) x5 (ix2 t e)
      - Ideal.exp (k0_pay50 (F := Ideal) (augN x0 x3 x4) x6 x8 (ix2 t e)) = _
    rw [mu H, var H, c1]; rfl
  show extractAt ![0, 0, 0] (shapeCast S1x1x1 (multiReduction .add [1, 2] S1 (shapeCast S1x256x512 Z shapeCasts_S256x512_S1x256x512)
    0x00000000#32 reduces_S1x256x512_S1 (.inl rfl) rfl) shapeCasts_S1_S1x1x1) inpos_S1x1x1_p0_0_0 = _
  refine Eq.trans (b := multiReduction .add [1, 2] S1 (shapeCast S1x256x512 Z shapeCasts_S256x512_S1x256x512)
    0x00000000#32 reduces_S1x256x512_S1 (.inl rfl) rfl (ix1 0)) (shapeCast_apply _ _ _ _ (by decide)) ?_
  refine (Ideal.multiReduction_add_total _ _ _ (by decide) _ _ _).trans ?_
  refine ((Shape.reshapeEquiv shapeCasts_S256x512_S1x256x512).sum_comp Z).trans ?_
  rw [sum_idx2]
  exact Finset.sum_congr rfl fun t _ => Finset.sum_congr rfl fun e _ => hz t e
end

end Cert.KernelIdeal.Block
-- ==== Proof.Input.lean ====
/-
  The nine input blocks of grid point `i` hold pair `i`.

  `pairOf x0 … x7 i` is pair `i` of the argument arrays: sample `i` is the normal one, sample `32 + i` the abnormal one. The
  host lays the arguments out before the kernel starts (the samples as 2×32, the memories transposed side by side, the
  weights transposed, the biases as rows), and the grid point's blocks are cut from these arrays.
-/
module

public import proofs.«01_k».proof.Proof.Block
public import Idealize.ShloMosaic.Lib.StableHlo.Run

@[expose] public section

noncomputable section

open Idealize.ShloMosaic Idealize.ShloMosaic.TcCoe Idealize.ShloMosaic.ValueIdx Idealize.SL.Sem

namespace Cert.Spec

/-- Pair `i` of the argument arrays. -/
def pairOf (x : Shape.Idx ⟨3, ![64, 256, 512]⟩ → EReal) (A N M : Shape.Idx ⟨2, ![512, 512]⟩ → EReal)
    (bm : Shape.Idx ⟨1, ![512]⟩ → EReal) (W : Shape.Idx ⟨2, ![512, 512]⟩ → EReal) (bv : Shape.Idx ⟨1, ![512]⟩ → EReal)
    (ep : Shape.Idx ⟨3, ![32, 256, 512]⟩ → EReal) (i : Fin 32) : Args where
  nx t d := x (ix3 ⟨i.val, by omega⟩ t d)
  ax t d := x (ix3 ⟨32 + i.val, by omega⟩ t d)
  ep t d := ep (ix3 i t d)
  AM k d := A (ix2 k d)
  NM k d := N (ix2 k d)
  WM e d := M (ix2 e d)
  WV e d := W (ix2 e d)
  bm e := bm (ix1 e)
  bv e := bv (ix1 e)

end Cert.Spec

namespace Cert.KernelIdeal.Input

open Cert.KernelIdeal Cert.KernelIdeal.Gen Cert.Spec Cert.KernelIdeal.Block

variable (m : (ℓ : Loc nD τ sig) → Buf (Elt Ideal) ℓ)

/-- Pair `i` of the arguments as launched. -/
def pair (c : Dev nD) (i : Fin 32) : Args :=
  pairOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) i

/-- The samples, laid out 2×32. -/
theorem V0 (c : Dev nD) (g : Fin 2) (i : Fin 32) (t : Fin 256) (d : Fin 512) (j : Fin 64) (hj : j.val = 32 * g.val + i.val) :
    V m c main_v0 (ix4 g i t d) = m ((c : Thread nD τ).loc main_arg0) (ix3 j t d) := by
  have h : V m c main_v0 = shapeCast S2x32x256x512 (m ((c : Thread nD τ).loc main_arg0)) shapeCasts_S64x256x512_S2x32x256x512 := by
    show StableHlo.after hostOps0 _ (Proc.devRef .tc main_v0) = _
    after_results
    rfl
  rw [h]
  refine shapeCast_apply _ _ _ _ ?_
  refine (Shape.rowMajor_val_three (d := ![64, 256, 512]) _).trans (Eq.trans ?_ (Shape.rowMajor_val_four (d := ![2, 32, 256, 512]) _).symm)
  show (j.val * 256 + t.val) * 512 + d.val = ((g.val * 32 + i.val) * 256 + t.val) * 512 + d.val
  omega

/-- A transposed square array. -/
theorem transposed (x : FVec Ideal S512x512 .f32) (r k : Fin 512) :
    transpose S512x512 [1, 0] x transposes_S512x512_S512x512_1_0 (ix2 r k) = x (ix2 k r) := by
  refine congrArg x (funext fun a => Fin.ext ?_)
  match a with
  | ⟨0, _⟩ => rfl
  | ⟨1, _⟩ => rfl

/-- The two memories, transposed side by side. -/
theorem V3 (c : Dev nD) : V m c main_v3 = concatenate S512x1024 1
    [⟨S512x512, transpose S512x512 [1, 0] (m ((c : Thread nD τ).loc main_arg1)) transposes_S512x512_S512x512_1_0⟩,
     ⟨S512x512, transpose S512x512 [1, 0] (m ((c : Thread nD τ).loc main_arg2)) transposes_S512x512_S512x512_1_0⟩]
    concatenates_S512x512_S512x512_S512x1024_d1 := by
  show StableHlo.after hostOps0 _ (Proc.devRef .tc main_v3) = _
  after_results

/-- The mean's weights, transposed. -/
theorem V4 (c : Dev nD) : V m c main_v4
    = transpose S512x512 [1, 0] (m ((c : Thread nD τ).loc main_arg3)) transposes_S512x512_S512x512_1_0 := by
  show StableHlo.after hostOps0 _ (Proc.devRef .tc main_v4) = _
  after_results

/-- The variance's weights, transposed. -/
theorem V5 (c : Dev nD) : V m c main_v5
    = transpose S512x512 [1, 0] (m ((c : Thread nD τ).loc main_arg5)) transposes_S512x512_S512x512_1_0 := by
  show StableHlo.after hostOps0 _ (Proc.devRef .tc main_v5) = _
  after_results

/-- The mean's bias as a row. -/
theorem V6 (c : Dev nD) : V m c main_v6 = shapeCast S1x512 (m ((c : Thread nD τ).loc main_arg4)) shapeCasts_S512_S1x512 := by
  show StableHlo.after hostOps0 _ (Proc.devRef .tc main_v6) = _
  after_results
  rfl

/-- The variance's bias as a row. -/
theorem V7 (c : Dev nD) : V m c main_v7 = shapeCast S1x512 (m ((c : Thread nD τ).loc main_arg6)) shapeCasts_S512_S1x512 := by
  show StableHlo.after hostOps0 _ (Proc.devRef .tc main_v7) = _
  after_results
  rfl

/-- The grid point's coordinate among the block indices: windows 0 and 1 move with the point. -/
theorem index0 : ∀ t : Fin cfg0.N, win0_0.index t 0 = 0 ∧ win0_0.index t 1 = t.val ∧ win0_0.index t 2 = 0 ∧ win0_0.index t 3 = 0 :=
  (by decide +kernel : ∀ t : Fin grid0.N, win0_0.index t 0 = 0 ∧ win0_0.index t 1 = t.val ∧ win0_0.index t 2 = 0 ∧ win0_0.index t 3 = 0)
/-- The noise window's block at each grid step: that sample, whole. -/
theorem index1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- The samples' block of a point. -/
theorem blk0 (c : Dev nD) (t : Fin cfg0.N) (g : Fin 2) (s : Fin 256) (d : Fin 512) :
    iblk m c 0 t (ix4 g 0 s d) = V m c main_v0 (ix4 g (t.cast rfl) s d) := by
  unfold iblk
  rw [View.read_apply]
  show V m c main_v0 _ = _
  refine congrArg (V m c main_v0) (funext fun a => Fin.ext ?_)
  obtain ⟨h0, h1, h2, h3⟩ := index0 t
  match a with
  | ⟨0, _⟩ => show win0_0.index t 0 * 2 + 1 * g.val = g.val; rw [h0]; omega
  | ⟨1, _⟩ => show win0_0.index t 1 * 1 + 1 * 0 = t.val; rw [h1]; omega
  | ⟨2, _⟩ => show win0_0.index t 2 * 256 + 1 * s.val = s.val; rw [h2]; omega
  | ⟨3, _⟩ => show win0_0.index t 3 * 512 + 1 * d.val = d.val; rw [h3]; omega

/-- The noise's block of a point. -/
theorem blk1 (c : Dev nD) (t : Fin cfg0.N) (s : Fin 256) (d : Fin 512) :
    iblk m c 1 t (ix3 0 s d) = m ((c : Thread nD τ).loc main_arg7) (ix3 (t.cast rfl) s d) := by
  unfold iblk
  rw [View.read_apply]
  show V m c main_arg7 _ = _
  rw [V_main_arg7]
  refine congrArg (m ((c : Thread nD τ).loc main_arg7)) (funext fun a => Fin.ext ?_)
  obtain ⟨h0, h1, h2⟩ := index1 t
  match a with
  | ⟨0, _⟩ => show win0_1.index t 0 * 1 + 1 * 0 = t.val; rw [h0]; omega
  | ⟨1, _⟩ => show win0_1.index t 1 * 256 + 1 * s.val = s.val; rw [h1]; omega
  | ⟨2, _⟩ => show win0_1.index t 2 * 512 + 1 * d.val = d.val; rw [h2]; omega

/-- A block of offset zero in both directions reads its array at its own index. -/
theorem block_zero {p q : ℕ} {i j : Shape.Idx ⟨2, ![p, q]⟩} (h0 : (i 0).val = 0 * p + 1 * (j 0).val)
    (h1 : (i 1).val = 0 * q + 1 * (j 1).val) : i = j := by
  funext a
  apply Fin.ext
  match a with
  | ⟨0, _⟩ => exact h0.trans (by rw [Nat.zero_mul, Nat.zero_add, Nat.one_mul]; rfl)
  | ⟨1, _⟩ => exact h1.trans (by rw [Nat.zero_mul, Nat.zero_add, Nat.one_mul]; rfl)

/-- Window 2 holds the first memory at every point. -/
theorem blk2 (c : Dev nD) (t : Fin cfg0.N) (j : S512x512.Idx) : iblk m c 2 t j = V m c main_arg1 j := by
  unfold iblk
  rw [View.read_apply]
  exact congrArg (V m c main_arg1) (block_zero rfl rfl)

/-- Window 3 holds the second memory at every point. -/
theorem blk3 (c : Dev nD) (t : Fin cfg0.N) (j : S512x512.Idx) : iblk m c 3 t j = V m c main_arg2 j := by
  unfold iblk
  rw [View.read_apply]
  exact congrArg (V m c main_arg2) (block_zero rfl rfl)

/-- Window 4 holds both memories side by side at every point. -/
theorem blk4 (c : Dev nD) (t : Fin cfg0.N) (j : S512x1024.Idx) : iblk m c 4 t j = V m c main_v3 j := by
  unfold iblk
  rw [View.read_apply]
  exact congrArg (V m c main_v3) (block_zero rfl rfl)

/-- Window 5 holds the mean's weights at every point. -/
theorem blk5 (c : Dev nD) (t : Fin cfg0.N) (j : S512x512.Idx) : iblk m c 5 t j = V m c main_v4 j := by
  unfold iblk
  rw [View.read_apply]
  exact congrArg (V m c main_v4) (block_zero rfl rfl)

/-- Window 6 holds the variance's weights at every point. -/
theorem blk6 (c : Dev nD) (t : Fin cfg0.N) (j : S512x512.Idx) : iblk m c 6 t j = V m c main_v5 j := by
  unfold iblk
  rw [View.read_apply]
  exact congrArg (V m c main_v5) (block_zero rfl rfl)

/-- Window 7 holds the mean's bias at every point. -/
theorem blk7 (c : Dev nD) (t : Fin cfg0.N) (j : S1x512.Idx) : iblk m c 7 t j = V m c main_v6 j := by
  unfold iblk
  rw [View.read_apply]
  exact congrArg (V m c main_v6) (block_zero rfl rfl)

/-- Window 8 holds the variance's bias at every point. -/
theorem blk8 (c : Dev nD) (t : Fin cfg0.N) (j : S1x512.Idx) : iblk m c 8 t j = V m c main_v7 j := by
  unfold iblk
  rw [View.read_apply]
  exact congrArg (V m c main_v7) (block_zero rfl rfl)

/-- The blocks of grid point `t` hold pair `t`. -/
theorem holds (c : Dev nD) (t : Fin cfg0.N) : Holds (pair m c (t.cast rfl)) (iblk m c 0 t) (iblk m c 1 t) (iblk m c 2 t)
    (iblk m c 3 t) (iblk m c 4 t) (iblk m c 5 t) (iblk m c 6 t) (iblk m c 7 t) (iblk m c 8 t) := by
  refine ⟨fun s d => ?_, fun s d => ?_, fun s d => ?_, fun k d => ?_, fun k d => ?_, fun d k => ?_, fun d k => ?_,
    fun d e => ?_, fun d e => ?_, fun e => ?_, fun e => ?_⟩
  · exact (blk0 m c t 0 s d).trans (V0 m c 0 _ s d _ (by simp))
  · exact (blk0 m c t 1 s d).trans (V0 m c 1 _ s d _ (by simp))
  · exact blk1 m c t s d
  · exact (blk2 m c t _).trans (congrFun (V_main_arg1 m c) _)
  · exact (blk3 m c t _).trans (congrFun (V_main_arg2 m c) _)
  · refine (blk4 m c t _).trans ((congrFun (V3 m c) _).trans ((concatenate_pair_apply_left (t := S512x1024) (s₁ := S512x512) (s₂ := S512x512) 1 _ _ _ _ rfl
      (ix2 d k) fun b => ?_).trans (transposed _ d k)))
    match b with
    | ⟨0, _⟩ => rfl
    | ⟨1, _⟩ => rfl
  · refine (blk4 m c t _).trans ((congrFun (V3 m c) _).trans ((concatenate_pair_apply_right (t := S512x1024) (s₁ := S512x512) (s₂ := S512x512) 1 _ _ _ _ rfl rfl
      (ix2 d k) (fun b hb => ?_) ?_).trans (transposed _ d k)))
    · match b with
      | ⟨0, _⟩ => rfl
      | ⟨1, _⟩ => exact absurd rfl hb
    · exact Nat.add_comm _ _
  · exact (blk5 m c t _).trans ((congrFun (V4 m c) _).trans (transposed _ d e))
  · exact (blk6 m c t _).trans ((congrFun (V5 m c) _).trans (transposed _ d e))
  · exact (blk7 m c t _).trans ((congrFun (V6 m c) _).trans (Ops.cast_row _ _ 0 e))
  · exact (blk8 m c t _).trans ((congrFun (V7 m c) _).trans (Ops.cast_row _ _ 0 e))

end Cert.KernelIdeal.Input
-- ==== Proof.Losses.lean ====
/-
  One grid point's temporal attentions and its two margin losses, over the extended reals, for pairs without ties.
-/
module

public import proofs.«01_k».proof.Proof.Block

@[expose] public section

noncomputable section

open Idealize.ShloMosaic Idealize.ShloMosaic.ValueIdx

namespace Cert.Spec

/-- The logistic is never negative. -/
theorem logistic_nonneg (x : EReal) : 0 ≤ Ideal.logistic x := by
  induction x with
  | bot => simp
  | top => simp
  | coe r => rw [Ideal.logistic_coe]; exact EReal.coe_nonneg.2 (by positivity)

/-- An attention is at least zero. -/
theorem att_nonneg (M : Mat) (x : Row) (k : Fin 512) : 0 ≤ att M x k := logistic_nonneg _

/-- The struck-out value lies below every attention. -/
theorem low_lt_att (M : Mat) (x : Row) (k : Fin 512) : Consts.low < att M x k := Consts.low_neg.trans_le (att_nonneg M x k)

/-- The sum of the largest attentions is at least zero. -/
theorem slotSum_nonneg (M : Mat) (x : Row) : 0 ≤ slotSum M x :=
  show 0 ≤ ∑ k, if TopK.rank (att M x) k < 33 then att M x k else 0 from
    Finset.sum_nonneg fun k _ => by split; exacts [att_nonneg M x k, le_rfl]

/-- The struck-out value lies below every temporal attention. -/
theorem low_lt_tatt (M : Mat) (x : Row) : Consts.low < tatt M x :=
  Consts.low_neg.trans_le (mul_nonneg (slotSum_nonneg M x) (EReal.coe_nonneg.2 (by norm_num)))

/-- Different sums give different means. -/
theorem tatt_injective {M : Mat} {x : Sample} (h : Args.TimesDistinct M x) : Function.Injective fun t => tatt M (x t) :=
  (TopK.mul_strictMono (c := 1/33) (by norm_num)).injective.comp h

end Cert.Spec

namespace Cert.KernelIdeal.Block

open Cert.KernelIdeal Cert.KernelIdeal.Gen Cert.KernelIdeal.Blocks Cert.TopK Cert.Consts Cert.Spec

/-- The length of a 1×512 row, as the kernel computes it. -/
def normV (v : FVec Ideal S1x512 .f32) : FVec Ideal S1x1 .f32 :=
  sqrt (shapeCast S1x1 (multiReduction .add [1] S1 (mulf v v) 0x00000000#32 reduces_S1x512_S1 (.inl rfl) rfl) shapeCasts_S1_S1x1)
/-- A 1×512 row divided by its length, as the kernel computes it. -/
def unitV (v : FVec Ideal S1x512 .f32) : FVec Ideal S1x512 .f32 := divf v (broadcastTo S1x512 (normV v) broadcasts_S1x1_S1x512)
/-- The difference of two rows moved by the triplet loss's constant, as the kernel computes it. -/
def diffV (u v : FVec Ideal S1x512 .f32) : FVec Ideal S1x512 .f32 :=
  addf (subf u v) (broadcast S1x512 (Scalar.ofBits .f32 0x358637BD#32))

/-- The kernel's length of a row is the length of that row. -/
theorem normV_apply (v : FVec Ideal S1x512 .f32) (x : Row) (h : ∀ e, v (ix2 0 e) = x e) : normV v (ix2 0 0) = norm x :=
  congrArg Ideal.sqrt ((Ops.cast_col _ _ 0 0).trans ((Ops.rowSum (mulf v v) _ _ _ _ 0).trans
    (Finset.sum_congr rfl fun e _ => by
      show v (ix2 0 e) * v (ix2 0 e) = _
      rw [h])))

/-- The kernel's row over its length is that row over its length. -/
theorem unitV_apply (v : FVec Ideal S1x512 .f32) (x : Row) (h : ∀ e, v (ix2 0 e) = x e) (e : Fin 512) :
    unitV v (ix2 0 e) = unit x e := by
  show Ideal.div (v (ix2 0 e)) (broadcastTo S1x512 (normV v) broadcasts_S1x1_S1x512 (ix2 0 e)) = _
  rw [Ops.bcast_col, normV_apply v x h, h]; rfl

/-- The kernel's distance of two rows is their distance. -/
theorem gapV_apply (u v : FVec Ideal S1x512 .f32) (x y : Row) (hu : ∀ e, u (ix2 0 e) = x e) (hv : ∀ e, v (ix2 0 e) = y e) :
    normV (diffV u v) (ix2 0 0) = gap x y :=
  normV_apply (diffV u v) (fun e => x e - y e + Ideal.ofBits .f32 0x358637BD#32) fun e => by
    show u (ix2 0 e) - v (ix2 0 e) + Ideal.ofBits .f32 0x358637BD#32 = _
    rw [hu, hv]

section
variable {a : Args} {x0 : Vec Ideal S2x1x256x512 .f32} {x1 : Vec Ideal S1x256x512 .f32} {x2 x3 : Vec Ideal S512x512 .f32}
  {x4 : Vec Ideal S512x1024 .f32} {x5 x6 : Vec Ideal S512x512 .f32} {x7 x8 : Vec Ideal S1x512 .f32}
variable (H : Holds a x0 x1 x2 x3 x4 x5 x6 x7 x8)
include H

/-- The stacked rows' temporal attention to the abnormal memory. -/
theorem slotA_apply (r : Fin 512) (h : Function.Injective (att a.AM (row a r))) :
    slotA (F := Ideal) x0 x4 (ix2 r 0) = tatt a.AM (row a r) :=
  Select.slotMean (k0_pay12 (F := Ideal) x0 x4) _ r h (low_lt_att _ _) (attA H r)

/-- The stacked rows' temporal attention to the normal memory. -/
theorem slotN_apply (r : Fin 512) (h : Function.Injective (att a.NM (row a r))) :
    k0_pay17 (F := Ideal) (k0_pay13 x0 x4) (clearN x0 x4) (ix2 r 0) = tatt a.NM (row a r) :=
  Select.slotMean (k0_pay13 (F := Ideal) x0 x4) _ r h (low_lt_att _ _) (attN H r)

/-- The abnormal sample's attention to the abnormal memory, where that row has no tie. -/
theorem tAA_apply (t : Fin 256) (h : Function.Injective (att a.AM (a.ax t))) : Blocks.tAA (F := Ideal) x0 x4 (ix2 t 0) = a.tAA t :=
  (slice 256 0 _ slices_S512x1_o256_0_S256x1 t 0 (hi t) 0 rfl rfl).trans
    ((slotA_apply H _ (by rw [row_hi]; exact h)).trans (by rw [row_hi]; rfl))
/-- The normal sample's attention to the abnormal memory, where that row has no tie. -/
theorem tAN_apply (t : Fin 256) (h : Function.Injective (att a.AM (a.nx t))) :
    extractStridedSlice S256x1 ![0, 0] (slotA (F := Ideal) x0 x4) slices_S512x1_o0_0_S256x1 (ix2 t 0) = a.tAN t :=
  (slice 0 0 _ slices_S512x1_o0_0_S256x1 t 0 (lo t) 0 (by simp) rfl).trans
    ((slotA_apply H _ (by rw [row_lo]; exact h)).trans (by rw [row_lo]; rfl))
/-- The normal sample's attention to the normal memory, where that row has no tie. -/
theorem tNN_apply (t : Fin 256) (h : Function.Injective (att a.NM (a.nx t))) : Blocks.tNN (F := Ideal) x0 x4 (ix2 t 0) = a.tNN t :=
  (slice 0 0 _ slices_S512x1_o0_0_S256x1 t 0 (lo t) 0 (by simp) rfl).trans
    ((slotN_apply H _ (by rw [row_lo]; exact h)).trans (by rw [row_lo]; rfl))
/-- The abnormal sample's attention to the normal memory, where that row has no tie. -/
theorem tNA_apply (t : Fin 256) (h : Function.Injective (att a.NM (a.ax t))) : Blocks.tNA (F := Ideal) x0 x4 (ix2 t 0) = a.tNA t :=
  (slice 256 0 _ slices_S512x1_o256_0_S256x1 t 0 (hi t) 0 rfl rfl).trans
    ((slotN_apply H _ (by rw [row_hi]; exact h)).trans (by rw [row_hi]; rfl))

/-- The marks of the abnormal sample's 17 time steps, by the abnormal memory. -/
theorem maskAA (hR : Args.RowsDistinct a.AM a.ax) (hT : Args.TimesDistinct a.AM a.ax) (t : Fin 256) :
    maskA (F := Ideal) x0 x4 (ix2 t 0) = if rank a.tAA t < 17 then (1 : EReal) else 0 :=
  Select.timeMask _ a.tAA (tatt_injective hT) (fun _ => low_lt_tatt _ _) (fun t => tAA_apply H t (hR t)) t
/-- The marks of the normal sample's 17 time steps, by the normal memory. -/
theorem maskNN (hR : Args.RowsDistinct a.NM a.nx) (hT : Args.TimesDistinct a.NM a.nx) (t : Fin 256) :
    k0_pay31 (F := Ideal) (Blocks.tNN x0 x4) (clearT x0 x4) (ix2 t 0) = if rank a.tNN t < 17 then (1 : EReal) else 0 :=
  Select.timeMask _ a.tNN (tatt_injective hT) (fun _ => low_lt_tatt _ _) (fun t => tNN_apply H t (hR t)) t
/-- The marks of the abnormal sample's 17 time steps, by the normal memory. -/
theorem maskNA (hR : Args.RowsDistinct a.NM a.ax) (hT : Args.TimesDistinct a.NM a.ax) (t : Fin 256) :
    k0_pay31 (F := Ideal) (Blocks.tNA x0 x4) (k0_pay38^[16] (Blocks.tNA x0 x4)) (ix2 t 0)
      = if rank a.tNA t < 17 then (1 : EReal) else 0 :=
  Select.timeMask _ a.tNA (tatt_injective hT) (fun _ => low_lt_tatt _ _) (fun t => tNA_apply H t (hR t)) t

/-- The triplet loss. -/
theorem triplet (hA : Args.RowsDistinct a.AM a.ax) (hA' : Args.TimesDistinct a.AM a.ax) (hN : Args.RowsDistinct a.NM a.nx)
    (hN' : Args.TimesDistinct a.NM a.nx) (hX : Args.RowsDistinct a.NM a.ax) (hX' : Args.TimesDistinct a.NM a.ax) :
    tmlBlock (F := Ideal) x0 x4 (ix2 0 0) = a.triplet := by
  set anc := k0_pay39 (F := Ideal) (k0_pay8 x0) (k0_pay31 (Blocks.tNN x0 x4) (clearT x0 x4)) with hanc
  set pos := k0_pay39 (F := Ideal) (k0_pay9 x0) (k0_pay31 (Blocks.tNA x0 x4) (k0_pay38^[16] (Blocks.tNA x0 x4))) with hpos
  set neg := k0_pay39 (F := Ideal) (k0_pay9 x0) (maskA x0 x4) with hneg
  have ea : ∀ e, anc (ix2 0 e) = pool a.tNN a.nx e := Select.pooled _ _ a.tNN a.nx (maskNN H hN hN') (normal H)
  have ep : ∀ e, pos (ix2 0 e) = pool a.tNA a.ax e := Select.pooled _ _ a.tNA a.ax (maskNA H hX hX') (abnormal H)
  have en : ∀ e, neg (ix2 0 e) = pool a.tAA a.ax e := Select.pooled _ _ a.tAA a.ax (maskAA H hA hA') (abnormal H)
  have h : tmlBlock (F := Ideal) x0 x4 (ix2 0 0) = max (normV (diffV (unitV anc) (unitV pos)) (ix2 0 0)
      - normV (diffV (unitV anc) (unitV neg)) (ix2 0 0) + Ideal.ofBits .f32 0x3F800000#32) (Ideal.ofBits .f32 0x00000000#32) := rfl
  rw [h, gapV_apply _ _ _ _ (unitV_apply anc _ ea) (unitV_apply pos _ ep),
    gapV_apply _ _ _ _ (unitV_apply anc _ ea) (unitV_apply neg _ en), c1, Ideal.ofBits_zero_f32]
  rfl

/-- The distance loss. -/
theorem distance (hA : Args.RowsDistinct a.AM a.ax) (hA' : Args.TimesDistinct a.AM a.ax) (hN : Args.RowsDistinct a.NM a.nx)
    (hN' : Args.TimesDistinct a.NM a.nx) : distBlock (F := Ideal) x0 x1 x2 x3 x4 x5 x6 x7 x8 (ix2 0 0) = a.distance := by
  set pN := k0_pay39 (F := Ideal) (Blocks.newN x0 x1 x3 x4 x5 x6 x7 x8) (k0_pay31 (Blocks.tNN x0 x4) (clearT x0 x4)) with hpN
  set pA := k0_pay39 (F := Ideal) (k0_pay47 (augA x0 x2 x4) (k0_pay43 x7) x5) (maskA x0 x4) with hpA
  have eN : ∀ e, pN (ix2 0 e) = pool a.tNN a.newN e := Select.pooled _ _ a.tNN a.newN (maskNN H hN hN') (newN H)
  have eA : ∀ e, pA (ix2 0 e) = pool a.tAA a.newA e := Select.pooled _ _ a.tAA a.newA (maskAA H hA hA') (newA H)
  have h : distBlock (F := Ideal) x0 x1 x2 x3 x4 x5 x6 x7 x8 (ix2 0 0) = max (Ideal.ofBits .f32 0x42C80000#32 - normV pA (ix2 0 0)
      + normV pN (ix2 0 0)) (Ideal.ofBits .f32 0x00000000#32) := rfl
  rw [h, normV_apply pA _ eA, normV_apply pN _ eN, c100, Ideal.ofBits_zero_f32]
  rfl
end

end Cert.KernelIdeal.Block
-- ==== Proof.Results.lean ====
/-
  The eight results over all 32 pairs, in plain mathematics: what both programs compute.
-/
module

public import proofs.«01_k».proof.Proof.Spec
public import Idealize.ShloMosaic.Lib.ValueIdx

@[expose] public section

noncomputable section

open Idealize.ShloMosaic Idealize.ShloMosaic.ValueIdx

namespace Cert.Spec

variable (P : Fin 32 → Args)

/-- The joined features of half `g` (0 normal, 1 abnormal) of pair `i`: the sample beside its augmented version. -/
def features (g : Fin 2) (i : Fin 32) (t : Fin 256) (e : Fin 1024) : EReal :=
  if g.val = 0 then
    if h : e.val < 512 then (P i).nx t ⟨e.val, h⟩
    else (P i).newN t ⟨e.val - 512, by omega⟩ + (P i).memN t ⟨e.val - 512, by omega⟩
  else
    if h : e.val < 512 then (P i).ax t ⟨e.val, h⟩
    else (P i).newA t ⟨e.val - 512, by omega⟩ + (P i).memA t ⟨e.val - 512, by omega⟩

/-- The features as an array. -/
def featuresArray : Shape.Idx ⟨4, ![2, 32, 256, 1024]⟩ → EReal := fun j => features P (j 0) (j 1) (j 2) (j 3)

/-- One temporal attention of all pairs as an array. -/
def column (τ : Args → Fin 256 → EReal) : Shape.Idx ⟨3, ![32, 256, 1]⟩ → EReal := fun j => τ (P (j 0)) (j 1)

/-- The mean triplet loss. -/
def tripletMean : EReal := ∑ i, (P i).triplet * ((1/32 : ℝ) : EReal)
/-- The mean distance loss. -/
def distanceMean : EReal := ∑ i, (P i).distance * ((1/32 : ℝ) : EReal)
/-- The divergence: the pairs' sums, each scaled. -/
def klMean : EReal := ∑ i, (P i).kl * ((-(1/32768) : ℝ) : EReal)

end Cert.Spec
-- ==== Proof.Arrays.lean ====
/-
  What the kernel leaves in its eight result arrays: the features everywhere, a temporal attention where its row has no tie,
  the divergence, and the two margin losses when the selections they rest on have no tie.
-/
module

public import proofs.«01_k».proof.Proof.Input
public import proofs.«01_k».proof.Proof.Losses
public import proofs.«01_k».proof.Proof.Results
public import proofs.«01_k».proof.Proof.Gen.KernelIdeal.Value
public import Idealize.ShloMosaic.Lib.Pipeline.ValueKit

@[expose] public section

noncomputable section

open Idealize.ShloMosaic Idealize.ShloMosaic.TcCoe Idealize.ShloMosaic.ValueIdx Idealize.SL.Sem

namespace Cert.KernelIdeal.Arrays

open Cert.KernelIdeal Cert.KernelIdeal.Gen Cert.Spec Cert.KernelIdeal.Block Cert.KernelIdeal.Input

variable (m : (ℓ : Loc nD τ sig) → Buf (Elt Ideal) ℓ) (c : Dev nD)

/-- The features' block of point `t`. -/
theorem fm_block (t : Fin cfg0.N) (j : S2x1x256x1024.Idx) :
    (outsAt0 m c t.val t.isLt).1 j = features (pair m c) (j 0) (t.cast rfl) (j 2) (j 3) := by
  have h : (outsAt0 m c t.val t.isLt).1 = Blocks.fmBlock (iblk m c 0 t) (iblk m c 1 t) (iblk m c 2 t) (iblk m c 3 t)
      (iblk m c 4 t) (iblk m c 5 t) (iblk m c 6 t) (iblk m c 7 t) (iblk m c 8 t) := by
    by_cases h0 : t.val % 32 = 0
    · rw [Blocks.outs_A m c t h0]
    · rw [Blocks.outs_B m c t h0]
  rw [h]
  have H := holds m c t
  unfold Blocks.fmBlock Blocks.fourBlock features
  by_cases hg : (j 0).val = 0
  · rw [if_pos hg, if_pos hg]
    by_cases he : (j 3).val < 512
    · rw [dif_pos he, dif_pos he]; exact normal H _ _
    · rw [dif_neg he, dif_neg he]; exact congrArg₂ (· + ·) (newN H _ _) (memN H _ _)
  · rw [if_neg hg, if_neg hg]
    by_cases he : (j 3).val < 512
    · rw [dif_pos he, dif_pos he]; exact abnormal H _ _
    · rw [dif_neg he, dif_neg he]; exact congrArg₂ (· + ·) (newA H _ _) (memA H _ _)

/-- Where the features' block of a point lies. -/
theorem index9 : ∀ t : Fin cfg0.N, win0_9.index t 0 = 0 ∧ win0_9.index t 1 = t.val ∧ win0_9.index t 2 = 0 ∧ win0_9.index t 3 = 0 :=
  (by decide +kernel : ∀ t : Fin grid0.N, win0_9.index t 0 = 0 ∧ win0_9.index t 1 = t.val ∧ win0_9.index t 2 = 0 ∧ win0_9.index t 3 = 0)

/-- The features' array. -/
theorem fm : (dats m 0 c).arrAt 9 cfg0.N = featuresArray (pair m c) := by
  refine (dats m 0 c).arrAt_eq_of_covers 9 _ (by decide +kernel) fun t hf y => ?_
  blk_simp
  rw [after0_9, fm_block]
  obtain ⟨h0, h1, h2, h3⟩ := index9 t
  have e0 : (win0_9.blk t).view.emb y 0 = y 0 := Fin.ext (by
    show win0_9.index t 0 * 2 + 1 * (y 0).val = (y 0).val; rw [h0]; omega)
  have e1 : (win0_9.blk t).view.emb y 1 = t.cast rfl := Fin.ext (by
    have hy : (y 1).val < 1 := (y 1).isLt
    show win0_9.index t 1 * 1 + 1 * (y 1).val = t.val; rw [h1]; omega)
  have e2 : (win0_9.blk t).view.emb y 2 = y 2 := Fin.ext (by
    show win0_9.index t 2 * 256 + 1 * (y 2).val = (y 2).val; rw [h2]; omega)
  have e3 : (win0_9.blk t).view.emb y 3 = y 3 := Fin.ext (by
    show win0_9.index t 3 * 1024 + 1 * (y 3).val = (y 3).val; rw [h3]; omega)
  unfold featuresArray
  rw [e0, e1, e2, e3]
  rfl

/-- A 256×1 column stored as a 1×256×1 block is read at its row. -/
theorem stored (x : FVec Ideal S256x1 .f32) (h : S256x1.ShapeCasts S1x256x1) (y : S1x256x1.Idx) :
    shapeCast S1x256x1 x h y = x (ValueIdx.ix2 (y 1) 0) :=
  shapeCast_apply x h y _ (by
    have h0 : (y 0).val < 1 := (y 0).isLt
    have h2 : (y 2).val < 1 := (y 2).isLt
    rw [Shape.rowMajor_val_two, Shape.rowMajor_val_three]
    show (y 1).val * 1 + 0 = ((y 0).val * 256 + (y 1).val) * 1 + (y 2).val
    omega)

/-- The stored columns of the four attentions. -/
theorem stored21 (v : FVec Ideal S512x1 .f32) (y : S1x256x1.Idx) :
    k0_pay21 (F := Ideal) v y = k0_pay18 (F := Ideal) v (ValueIdx.ix2 (y 1) 0) := stored (k0_pay18 (F := Ideal) v) _ y
/-- The stored column of the normal sample's attentions to the normal memory, at a time step. -/
theorem stored24 (v w : FVec Ideal S512x512 .f32) (y : S1x256x1.Idx) :
    k0_pay24 (F := Ideal) v w y = k0_pay19 (F := Ideal) v w (ValueIdx.ix2 (y 1) 0) := stored (k0_pay19 (F := Ideal) v w) _ y
/-- The stored column of the normal sample's attentions to the abnormal memory, at a time step. -/
theorem stored23 (v : FVec Ideal S512x1 .f32) (y : S1x256x1.Idx) : k0_pay23 (F := Ideal) v y
    = extractStridedSlice S256x1 ![0, 0] v slices_S512x1_o0_0_S256x1 (ValueIdx.ix2 (y 1) 0) := by
  unfold k0_pay23
  exact stored _ _ y
/-- The stored column of the abnormal sample's attentions to the normal memory, at a time step. -/
theorem stored22 (v w : FVec Ideal S512x512 .f32) (y : S1x256x1.Idx) :
    k0_pay22 (F := Ideal) v w y = k0_pay20 (F := Ideal) v w (ValueIdx.ix2 (y 1) 0) := stored (k0_pay20 (F := Ideal) v w) _ y

/-- What a point leaves in the four blocks of temporal attentions. -/
theorem tatt_block (t : Fin cfg0.N) (y : S1x256x1.Idx) :
    (outsAt0 m c t.val t.isLt).2.1 y = Blocks.tAA (iblk m c 0 t) (iblk m c 4 t) (ValueIdx.ix2 (y 1) 0)
    ∧ (outsAt0 m c t.val t.isLt).2.2.1 y = Blocks.tNN (iblk m c 0 t) (iblk m c 4 t) (ValueIdx.ix2 (y 1) 0)
    ∧ (outsAt0 m c t.val t.isLt).2.2.2.1 y = extractStridedSlice S256x1 ![0, 0]
        (Blocks.slotA (iblk m c 0 t) (iblk m c 4 t)) slices_S512x1_o0_0_S256x1 (ValueIdx.ix2 (y 1) 0)
    ∧ (outsAt0 m c t.val t.isLt).2.2.2.2.1 y = Blocks.tNA (iblk m c 0 t) (iblk m c 4 t) (ValueIdx.ix2 (y 1) 0) := by
  let SA := Blocks.slotA (F := Ideal) (iblk m c 0 t) (iblk m c 4 t)
  let AT := k0_pay13 (F := Ideal) (iblk m c 0 t) (iblk m c 4 t)
  let CN := Blocks.clearN (F := Ideal) (iblk m c 0 t) (iblk m c 4 t)
  by_cases h0 : t.val % 32 = 0
  · rw [Blocks.outs_A m c t h0]
    exact ⟨stored21 SA y, stored24 AT CN y, stored23 SA y, stored22 AT CN y⟩
  · rw [Blocks.outs_B m c t h0]
    exact ⟨stored21 SA y, stored24 AT CN y, stored23 SA y, stored22 AT CN y⟩

/-- Where a point's block of window 10 lies. -/
theorem emb10 (t : Fin cfg0.N) (y : S1x256x1.Idx) :
    (win0_10.blk t).view.emb y 0 = t.cast rfl ∧ (win0_10.blk t).view.emb y 1 = y 1 := by
  have h0 : ∀ t : Fin cfg0.N, win0_10.index t 0 = t.val ∧ win0_10.index t 1 = 0 :=
    (by decide +kernel : ∀ t : Fin grid0.N, win0_10.index t 0 = t.val ∧ win0_10.index t 1 = 0)
  have hy : (y 0).val < 1 := (y 0).isLt
  constructor
  · exact Fin.ext (by show win0_10.index t 0 * 1 + 1 * (y 0).val = t.val; rw [(h0 t).1]; omega)
  · exact Fin.ext (by show win0_10.index t 1 * 256 + 1 * (y 1).val = (y 1).val; rw [(h0 t).2]; omega)

/-- The temporal attention of the abnormal sample to the abnormal memory, at a row without tie. -/
theorem aatt (i : S32x256x1.Idx) (h : Function.Injective (att (pair m c (i 0)).AM ((pair m c (i 0)).ax (i 1)))) :
    (dats m 0 c).arrAt 10 cfg0.N i = column (pair m c) Args.tAA i := by
  refine (dats m 0 c).arrAt_forall_of_covers 10 (fun i v => Function.Injective (att (pair m c (i 0)).AM
    ((pair m c (i 0)).ax (i 1))) → v = column (pair m c) Args.tAA i) (by decide +kernel) (fun t hf y => ?_) i
    (Memref.isWhole_whole _) h
  blk_simp
  rw [after0_10]
  unfold column
  rw [(emb10 t y).1, (emb10 t y).2]
  exact fun h => (tatt_block m c t y).1.trans (tAA_apply (holds m c t) (y 1) h)

/-- Where a point's block of window 11 lies. -/
theorem emb11 (t : Fin cfg0.N) (y : S1x256x1.Idx) :
    (win0_11.blk t).view.emb y 0 = t.cast rfl ∧ (win0_11.blk t).view.emb y 1 = y 1 := by
  have h0 : ∀ t : Fin cfg0.N, win0_11.index t 0 = t.val ∧ win0_11.index t 1 = 0 :=
    (by decide +kernel : ∀ t : Fin grid0.N, win0_11.index t 0 = t.val ∧ win0_11.index t 1 = 0)
  have hy : (y 0).val < 1 := (y 0).isLt
  constructor
  · exact Fin.ext (by show win0_11.index t 0 * 1 + 1 * (y 0).val = t.val; rw [(h0 t).1]; omega)
  · exact Fin.ext (by show win0_11.index t 1 * 256 + 1 * (y 1).val = (y 1).val; rw [(h0 t).2]; omega)

/-- The temporal attention of the normal sample to the normal memory, at a row without tie. -/
theorem natt (i : S32x256x1.Idx) (h : Function.Injective (att (pair m c (i 0)).NM ((pair m c (i 0)).nx (i 1)))) :
    (dats m 0 c).arrAt 11 cfg0.N i = column (pair m c) Args.tNN i := by
  refine (dats m 0 c).arrAt_forall_of_covers 11 (fun i v => Function.Injective (att (pair m c (i 0)).NM
    ((pair m c (i 0)).nx (i 1))) → v = column (pair m c) Args.tNN i) (by decide +kernel) (fun t hf y => ?_) i
    (Memref.isWhole_whole _) h
  blk_simp
  rw [after0_11]
  unfold column
  rw [(emb11 t y).1, (emb11 t y).2]
  exact fun h => (tatt_block m c t y).2.1.trans (tNN_apply (holds m c t) (y 1) h)

/-- Where a point's block of window 12 lies. -/
theorem emb12 (t : Fin cfg0.N) (y : S1x256x1.Idx) :
    (win0_12.blk t).view.emb y 0 = t.cast rfl ∧ (win0_12.blk t).view.emb y 1 = y 1 := by
  have h0 : ∀ t : Fin cfg0.N, win0_12.index t 0 = t.val ∧ win0_12.index t 1 = 0 :=
    (by decide +kernel : ∀ t : Fin grid0.N, win0_12.index t 0 = t.val ∧ win0_12.index t 1 = 0)
  have hy : (y 0).val < 1 := (y 0).isLt
  constructor
  · exact Fin.ext (by show win0_12.index t 0 * 1 + 1 * (y 0).val = t.val; rw [(h0 t).1]; omega)
  · exact Fin.ext (by show win0_12.index t 1 * 256 + 1 * (y 1).val = (y 1).val; rw [(h0 t).2]; omega)

/-- The temporal attention of the normal sample to the abnormal memory, at a row without tie. -/
theorem anatt (i : S32x256x1.Idx) (h : Function.Injective (att (pair m c (i 0)).AM ((pair m c (i 0)).nx (i 1)))) :
    (dats m 0 c).arrAt 12 cfg0.N i = column (pair m c) Args.tAN i := by
  refine (dats m 0 c).arrAt_forall_of_covers 12 (fun i v => Function.Injective (att (pair m c (i 0)).AM
    ((pair m c (i 0)).nx (i 1))) → v = column (pair m c) Args.tAN i) (by decide +kernel) (fun t hf y => ?_) i
    (Memref.isWhole_whole _) h
  blk_simp
  rw [after0_12]
  unfold column
  rw [(emb12 t y).1, (emb12 t y).2]
  exact fun h => (tatt_block m c t y).2.2.1.trans (tAN_apply (holds m c t) (y 1) h)

/-- Where a point's block of window 13 lies. -/
theorem emb13 (t : Fin cfg0.N) (y : S1x256x1.Idx) :
    (win0_13.blk t).view.emb y 0 = t.cast rfl ∧ (win0_13.blk t).view.emb y 1 = y 1 := by
  have h0 : ∀ t : Fin cfg0.N, win0_13.index t 0 = t.val ∧ win0_13.index t 1 = 0 :=
    (by decide +kernel : ∀ t : Fin grid0.N, win0_13.index t 0 = t.val ∧ win0_13.index t 1 = 0)
  have hy : (y 0).val < 1 := (y 0).isLt
  constructor
  · exact Fin.ext (by show win0_13.index t 0 * 1 + 1 * (y 0).val = t.val; rw [(h0 t).1]; omega)
  · exact Fin.ext (by show win0_13.index t 1 * 256 + 1 * (y 1).val = (y 1).val; rw [(h0 t).2]; omega)

/-- The temporal attention of the abnormal sample to the normal memory, at a row without tie. -/
theorem naatt (i : S32x256x1.Idx) (h : Function.Injective (att (pair m c (i 0)).NM ((pair m c (i 0)).ax (i 1)))) :
    (dats m 0 c).arrAt 13 cfg0.N i = column (pair m c) Args.tNA i := by
  refine (dats m 0 c).arrAt_forall_of_covers 13 (fun i v => Function.Injective (att (pair m c (i 0)).NM
    ((pair m c (i 0)).ax (i 1))) → v = column (pair m c) Args.tNA i) (by decide +kernel) (fun t hf y => ?_) i
    (Memref.isWhole_whole _) h
  blk_simp
  rw [after0_13]
  unfold column
  rw [(emb13 t y).1, (emb13 t y).2]
  exact fun h => (tatt_block m c t y).2.2.2.trans (tNA_apply (holds m c t) (y 1) h)

/-- The triplet accumulator at the last point. -/
theorem triplet_sum (t : Fin cfg0.N) (ht : t.val + 1 = cfg0.N) (j : S1x1.Idx) : (outsAt0 m c t.val t.isLt).2.2.2.2.2.1 j
    = 0 + ∑ p : Fin cfg0.N, Blocks.tmlBlock (F := Ideal) (iblk m c 0 p) (iblk m c 4 p) j * ((1/32 : ℝ) : EReal) :=
  Pipeline.eq_sum_fin_of_reset_step_apply_last (fun n h => ((outsAt0 m c n h).2.2.2.2.2.1 : S1x1.Idx → EReal)) 32 (fun _ => 0)
    (fun p j => Blocks.tmlBlock (F := Ideal) (iblk m c 0 p) (iblk m c 4 p) j * ((1/32 : ℝ) : EReal))
    (fun p h j => by
      show (outsAt0 m c p.val p.isLt).2.2.2.2.2.1 j = _
      rw [Blocks.outs_A m c p h]
      show k0_pay4 _ _ j = _
      unfold k0_pay4 k0_pay1
      rw [shapeCast_self]
      show Ideal.ofBits .f32 0x00000000#32 + _ * Ideal.ofBits .f32 0x3D000000#32 = _
      rw [Ideal.ofBits_zero_f32, Consts.cInv32])
    (fun p h j => by
      show (outsAt0 m c p.val p.isLt).2.2.2.2.2.1 j = _
      rw [Blocks.outs_B m c p h]
      show k0_pay4 _ _ j = _
      unfold k0_pay4
      rw [shapeCast_self]
      show _ + _ * Ideal.ofBits .f32 0x3D000000#32 = _
      rw [Consts.cInv32])
    (by decide +kernel) t ht j

/-- The divergence accumulator at the last point. -/
theorem kl_sum (t : Fin cfg0.N) (ht : t.val + 1 = cfg0.N) (j : S1x1.Idx) : (outsAt0 m c t.val t.isLt).2.2.2.2.2.2.1 j
    = 0 + ∑ p : Fin cfg0.N, Blocks.klBlock (F := Ideal) (iblk m c 0 p) (iblk m c 3 p) (iblk m c 4 p) (iblk m c 5 p) (iblk m c 6 p) (iblk m c 7 p) (iblk m c 8 p) * ((-(1/32768) : ℝ) : EReal) :=
  Pipeline.eq_sum_fin_of_reset_step_apply_last (fun n h => ((outsAt0 m c n h).2.2.2.2.2.2.1 : S1x1.Idx → EReal)) 32 (fun _ => 0)
    (fun p j => Blocks.klBlock (F := Ideal) (iblk m c 0 p) (iblk m c 3 p) (iblk m c 4 p) (iblk m c 5 p) (iblk m c 6 p) (iblk m c 7 p) (iblk m c 8 p) * ((-(1/32768) : ℝ) : EReal))
    (fun p h j => by
      show (outsAt0 m c p.val p.isLt).2.2.2.2.2.2.1 j = _
      rw [Blocks.outs_A m c p h]
      show k0_pay5 _ _ j = _
      unfold k0_pay5 k0_pay2
      rw [shapeCast_self]
      show Ideal.ofBits .f32 0x00000000#32 + _ * Ideal.ofBits .f32 0xB8000000#32 = _
      rw [Ideal.ofBits_zero_f32, Consts.cKl])
    (fun p h j => by
      show (outsAt0 m c p.val p.isLt).2.2.2.2.2.2.1 j = _
      rw [Blocks.outs_B m c p h]
      show k0_pay5 _ _ j = _
      unfold k0_pay5
      rw [shapeCast_self]
      show _ + _ * Ideal.ofBits .f32 0xB8000000#32 = _
      rw [Consts.cKl])
    (by decide +kernel) t ht j

/-- The distance accumulator at the last point. -/
theorem distance_sum (t : Fin cfg0.N) (ht : t.val + 1 = cfg0.N) (j : S1x1.Idx) : (outsAt0 m c t.val t.isLt).2.2.2.2.2.2.2 j
    = 0 + ∑ p : Fin cfg0.N, Blocks.distBlock (F := Ideal) (iblk m c 0 p) (iblk m c 1 p) (iblk m c 2 p) (iblk m c 3 p) (iblk m c 4 p) (iblk m c 5 p) (iblk m c 6 p) (iblk m c 7 p) (iblk m c 8 p) j * ((1/32 : ℝ) : EReal) :=
  Pipeline.eq_sum_fin_of_reset_step_apply_last (fun n h => ((outsAt0 m c n h).2.2.2.2.2.2.2 : S1x1.Idx → EReal)) 32 (fun _ => 0)
    (fun p j => Blocks.distBlock (F := Ideal) (iblk m c 0 p) (iblk m c 1 p) (iblk m c 2 p) (iblk m c 3 p) (iblk m c 4 p) (iblk m c 5 p) (iblk m c 6 p) (iblk m c 7 p) (iblk m c 8 p) j * ((1/32 : ℝ) : EReal))
    (fun p h j => by
      show (outsAt0 m c p.val p.isLt).2.2.2.2.2.2.2 j = _
      rw [Blocks.outs_A m c p h]
      show k0_pay6 _ _ j = _
      unfold k0_pay6 k0_pay3
      rw [shapeCast_self]
      show Ideal.ofBits .f32 0x00000000#32 + _ * Ideal.ofBits .f32 0x3D000000#32 = _
      rw [Ideal.ofBits_zero_f32, Consts.cInv32])
    (fun p h j => by
      show (outsAt0 m c p.val p.isLt).2.2.2.2.2.2.2 j = _
      rw [Blocks.outs_B m c p h]
      show k0_pay6 _ _ j = _
      unfold k0_pay6
      rw [shapeCast_self]
      show _ + _ * Ideal.ofBits .f32 0x3D000000#32 = _
      rw [Consts.cInv32])
    (by decide +kernel) t ht j

/-- A sample and a memory without ties: within each row, and between the time steps' sums. -/
def NoTies (M : Mat) (x : Sample) : Prop := Args.RowsDistinct M x ∧ Args.TimesDistinct M x

/-- The only index of a 1×1 array. -/
theorem only (j : S1x1.Idx) : j = ValueIdx.ix2 0 0 := by
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)

/-- The last point is the one whose accumulators are written back. -/
theorem last (t : Fin cfg0.N) (h : t.val % 32 = 31) : t.val + 1 = cfg0.N := by
  have : cfg0.N = 32 := by decide +kernel
  omega

/-- The triplet loss. -/
theorem tml (hA : ∀ i, NoTies (pair m c i).AM (pair m c i).ax) (hN : ∀ i, NoTies (pair m c i).NM (pair m c i).nx)
    (hX : ∀ i, NoTies (pair m c i).NM (pair m c i).ax) (j : S1x1.Idx) :
    (dats m 0 c).arrAt 14 cfg0.N j = tripletMean (pair m c) := by
  refine (dats m 0 c).arrAt_forall_of_covers 14 (fun _ v => v = tripletMean (pair m c)) (by decide +kernel)
    (fun t hf y => ?_) j
  blk_simp
  rw [after0_14]
  refine (triplet_sum m c t (last t ((flush0_14 t).mp hf)) y).trans ((zero_add _).trans ?_)
  refine Finset.sum_congr rfl fun p _ => congrArg (· * ((1/32 : ℝ) : EReal)) ?_
  rw [only y]
  exact triplet (holds m c p) (hA _).1 (hA _).2 (hN _).1 (hN _).2 (hX _).1 (hX _).2

/-- The divergence. -/
theorem kl (j : S1x1.Idx) : (dats m 0 c).arrAt 15 cfg0.N j = klMean (pair m c) := by
  refine (dats m 0 c).arrAt_forall_of_covers 15 (fun _ v => v = klMean (pair m c)) (by decide +kernel)
    (fun t hf y => ?_) j
  blk_simp
  rw [after0_15]
  refine (kl_sum m c t (last t ((flush0_15 t).mp hf)) y).trans ((zero_add _).trans ?_)
  exact Finset.sum_congr rfl fun p _ => congrArg (· * ((-(1/32768) : ℝ) : EReal)) (Block.kl (holds m c p))

/-- The distance loss. -/
theorem dist (hA : ∀ i, NoTies (pair m c i).AM (pair m c i).ax) (hN : ∀ i, NoTies (pair m c i).NM (pair m c i).nx)
    (j : S1x1.Idx) : (dats m 0 c).arrAt 16 cfg0.N j = distanceMean (pair m c) := by
  refine (dats m 0 c).arrAt_forall_of_covers 16 (fun _ v => v = distanceMean (pair m c)) (by decide +kernel)
    (fun t hf y => ?_) j
  blk_simp
  rw [after0_16]
  refine (distance_sum m c t (last t ((flush0_16 t).mp hf)) y).trans ((zero_add _).trans ?_)
  refine Finset.sum_congr rfl fun p _ => congrArg (· * ((1/32 : ℝ) : EReal)) ?_
  rw [only y]
  exact distance (holds m c p) (hA _).1 (hA _).2 (hN _).1 (hN _).2

end Cert.KernelIdeal.Arrays
-- ==== Proof.HostOps.lean ====
/-
  The host's operations on the arrays of this problem, read at an index: matrix products of a batch of samples with a
  square matrix, sums along an axis, a broadcast number, and the gather of whole rows at given time steps.
-/
module

public import proofs.«01_k».proof.Proof.Spec
public import proofs.«01_k».proof.Proof.Gen.ReferenceIdeal.Read
public import Idealize.ShloMosaic.Lib.ReduceAll

@[expose] public section

noncomputable section

open Cert.ReferenceIdeal Cert.ReferenceIdeal.Gen Idealize.ShloMosaic Idealize.ShloMosaic.ValueIdx Cert.Spec

namespace Cert.HostOps

/-- A batch of 32 samples. -/
abbrev Batch := FVec Ideal S32x256x512 .f32
/-- A square matrix. -/
abbrev Square := FVec Ideal S512x512 .f32

/-- The rows of a matrix. -/
def mat (M : Square) : Mat := fun k d => M (ix2 k d)
/-- One sample of a batch. -/
def sample (y : Batch) (i : Fin 32) : Sample := fun t d => y (ix3 i t d)

section Sums
variable {p q n : ℕ}

/-- Summing a rank-3 array along its last axis: the index that a term is read at. -/
theorem lift3_last (h : Shape.Reduces ⟨3, ![p, q, n]⟩ [2] ⟨2, ![p, q]⟩) (i : Fin p) (t : Fin q) (k : Fin n) :
    h.lift (ix2 i t) k = ix3 i t k := by
  funext d; match d with
  | ⟨0, _⟩ => exact Fin.ext ((Shape.Reduces.lift_val h _ _ _).trans rfl)
  | ⟨1, _⟩ => exact Fin.ext ((Shape.Reduces.lift_val h _ _ _).trans rfl)
  | ⟨2, _⟩ => exact Fin.ext ((Shape.Reduces.lift_val h _ _ _).trans rfl)

/-- Summing a rank-3 array along its middle axis: the index that a term is read at. -/
theorem lift3_mid (h : Shape.Reduces ⟨3, ![p, q, n]⟩ [1] ⟨2, ![p, n]⟩) (i : Fin p) (e : Fin n) (k : Fin q) :
    h.lift (ix2 i e) k = ix3 i k e := by
  funext d; match d with
  | ⟨0, _⟩ => exact Fin.ext ((Shape.Reduces.lift_val h _ _ _).trans rfl)
  | ⟨1, _⟩ => exact Fin.ext ((Shape.Reduces.lift_val h _ _ _).trans rfl)
  | ⟨2, _⟩ => exact Fin.ext ((Shape.Reduces.lift_val h _ _ _).trans rfl)

/-- Summing a matrix along its rows: the index that a term is read at. -/
theorem lift2_last (h : Shape.Reduces ⟨2, ![p, n]⟩ [1] ⟨1, ![p]⟩) (i : Fin p) (k : Fin n) : h.lift (ix1 i) k = ix2 i k := by
  funext d; match d with
  | ⟨0, _⟩ => exact Fin.ext ((Shape.Reduces.lift_val h _ _ _).trans rfl)
  | ⟨1, _⟩ => exact Fin.ext ((Shape.Reduces.lift_val h _ _ _).trans rfl)

variable {u : Shape} (hu : 0 < u.numel)

/-- The host's sum of a rank-3 array along its last axis, from zero. -/
theorem sum3_last (x : FVec Ideal ⟨3, ![p, q, n]⟩ .f32) (h' : Shape.ReducesTo ⟨3, ![p, q, n]⟩ [2] ⟨2, ![p, q]⟩)
    (h : Shape.Reduces ⟨3, ![p, q, n]⟩ [2] ⟨2, ![p, q]⟩) (i : Fin p) (t : Fin q) :
    Host.reduceAdd x (constant (F := Ideal) u .f32 0x00000000#32) h' hu (ix2 i t) = ∑ k, x (ix3 i t k) :=
  (Ideal.hostReduceAdd_single h' h x _ _).trans <|
    (congrArg₂ (· + ·) Ideal.ofBits_zero_f32 (Finset.sum_congr rfl fun k _ => congrArg x (lift3_last h i t k))).trans (zero_add _)

/-- The host's sum of a rank-3 array along its middle axis, from zero. -/
theorem sum3_mid (x : FVec Ideal ⟨3, ![p, q, n]⟩ .f32) (h' : Shape.ReducesTo ⟨3, ![p, q, n]⟩ [1] ⟨2, ![p, n]⟩)
    (h : Shape.Reduces ⟨3, ![p, q, n]⟩ [1] ⟨2, ![p, n]⟩) (i : Fin p) (e : Fin n) :
    Host.reduceAdd x (constant (F := Ideal) u .f32 0x00000000#32) h' hu (ix2 i e) = ∑ k, x (ix3 i k e) :=
  (Ideal.hostReduceAdd_single h' h x _ _).trans <|
    (congrArg₂ (· + ·) Ideal.ofBits_zero_f32 (Finset.sum_congr rfl fun k _ => congrArg x (lift3_mid h i e k))).trans (zero_add _)

/-- The host's sum of a matrix along its last axis, from zero. -/
theorem sum2_last (x : FVec Ideal ⟨2, ![p, n]⟩ .f32) (h' : Shape.ReducesTo ⟨2, ![p, n]⟩ [1] ⟨1, ![p]⟩)
    (h : Shape.Reduces ⟨2, ![p, n]⟩ [1] ⟨1, ![p]⟩) (i : Fin p) :
    Host.reduceAdd x (constant (F := Ideal) u .f32 0x00000000#32) h' hu (ix1 i) = ∑ k, x (ix2 i k) :=
  (Ideal.hostReduceAdd_single h' h x _ _).trans <|
    (congrArg₂ (· + ·) Ideal.ofBits_zero_f32 (Finset.sum_congr rfl fun k _ => congrArg x (lift2_last h i k))).trans (zero_add _)

end Sums

section Products

/-- A batch times a transposed matrix. -/
theorem dotRows (y : Batch) (M : Square) (i : Fin 32) (t : Fin 256) (k : Fin 512) :
    Host.dotGeneral (F := Ideal)
      dot_S32x256x512_S512x512_S32x256x512_2_1_01_0_n_n none y M (ix3 i t k) = ∑ d, sample y i t d * mat M k d := by
  simp only [Host.dotGeneral]
  rw [Ideal.dotGeneral_apply, ← Equiv.sum_comp (contrEquiv1 dot_S32x256x512_S512x512_S32x256x512_2_1_01_0_n_n 512 rfl rfl).symm]
  refine Finset.sum_congr rfl fun d _ => ?_
  have hd := contrEquiv1_symm_val dot_S32x256x512_S512x512_S32x256x512_2_1_01_0_n_n 512 rfl rfl d
  refine congrArg₂ (· * ·) (congrArg y (funext fun a => Fin.ext ?_)) (congrArg M (funext fun a => Fin.ext ?_))
  · match a with
    | ⟨0, _⟩ => exact Read.lhs_main_v2_0 _ _
    | ⟨1, _⟩ => exact Read.lhs_main_v2_1 _ _
    | ⟨2, _⟩ => exact (Read.lhs_main_v2_2 _ _).trans hd
  · match a with
    | ⟨0, _⟩ => exact Read.rhs_main_v2_0 _ _
    | ⟨1, _⟩ => exact (Read.rhs_main_v2_1 _ _).trans hd

/-- A batch times a matrix. -/
theorem dotCols (y : Batch) (M : Square) (i : Fin 32) (t : Fin 256) (e : Fin 512) :
    Host.dotGeneral (F := Ideal)
      dot_S32x256x512_S512x512_S32x256x512_2_0_01_1_n_n none y M (ix3 i t e) = ∑ k, sample y i t k * mat M k e := by
  simp only [Host.dotGeneral]
  rw [Ideal.dotGeneral_apply, ← Equiv.sum_comp (contrEquiv1 dot_S32x256x512_S512x512_S32x256x512_2_0_01_1_n_n 512 rfl rfl).symm]
  refine Finset.sum_congr rfl fun k _ => ?_
  have hk := contrEquiv1_symm_val dot_S32x256x512_S512x512_S32x256x512_2_0_01_1_n_n 512 rfl rfl k
  refine congrArg₂ (· * ·) (congrArg y (funext fun a => Fin.ext ?_)) (congrArg M (funext fun a => Fin.ext ?_))
  · match a with
    | ⟨0, _⟩ => exact Read.lhs_main_v13_0 _ _
    | ⟨1, _⟩ => exact Read.lhs_main_v13_1 _ _
    | ⟨2, _⟩ => exact (Read.lhs_main_v13_2 _ _).trans hk
  · match a with
    | ⟨0, _⟩ => exact (Read.rhs_main_v13_0 _ _).trans hk
    | ⟨1, _⟩ => exact Read.rhs_main_v13_1 _ _

end Products

section Gather

/-- How the reference gathers: 17 whole rows of each sample. -/
abbrev rowsAt := gather_S32x256x512_S32x17x1_S32x17x512_2_1_0_0_1_2_11512

/-- The host's gather of whole rows: row `j` of sample `i` is the row at the position the indices name, held in range. -/
theorem gather_apply (y : Batch) (idx : IVec S32x17x1 32) (i : Fin 32) (j : Fin 17) (e : Fin 512) (t : Fin 256)
    (ht : (idx (ix3 i j 0)).toInt.toNat = t.val) :
    Host.gather rowsAt y idx (ix3 i j e) = sample y i t e := by
  unfold Host.gather sample
  have h0 : ∀ c, rowsAt.siIdx (ix3 i j e) c = ix3 i j 0 := fun c => funext fun b => match b with
    | ⟨0, _⟩ => rfl
    | ⟨1, _⟩ => rfl
    | ⟨2, _⟩ => Fin.ext (Nat.lt_one_iff.1 c.isLt)
  refine congrArg y (funext fun a => Fin.ext ?_)
  match a with
  | ⟨0, _⟩ => show rowsAt.start (ix3 i j e) idx 0 + rowsAt.batchCoord (ix3 i j e) 0 + rowsAt.offCoord (ix3 i j e) 0 = i.val
              rw [rowsAt.start_batching _ _ _ (by decide), rowsAt.offCoord_eq_zero _ _ (by decide), zero_add, add_zero]
              rfl
  | ⟨1, _⟩ => show rowsAt.start (ix3 i j e) idx 1 + rowsAt.batchCoord (ix3 i j e) 1 + rowsAt.offCoord (ix3 i j e) 1 = t.val
              rw [rowsAt.batchCoord_eq_zero _ _ (by decide), rowsAt.offCoord_eq_zero _ _ (by decide), add_zero, add_zero]
              unfold GatherDims.start
              rw [dif_pos (show (1 : Fin 3) ∈ rowsAt.startIndexMap by decide), h0, ht]
              exact Nat.min_eq_left (Nat.le_of_lt_succ t.isLt)
  | ⟨2, _⟩ => show rowsAt.start (ix3 i j e) idx 2 + rowsAt.batchCoord (ix3 i j e) 2 + rowsAt.offCoord (ix3 i j e) 2 = e.val
              rw [rowsAt.batchCoord_eq_zero _ _ (by decide)]
              unfold GatherDims.start
              rw [dif_neg (show ¬(2 : Fin 3) ∈ rowsAt.startIndexMap by decide), zero_add, zero_add]
              rfl

end Gather

end Cert.HostOps
-- ==== Proof.HostTopK.lean ====
/-
  The host's top-k of the extended reals along the last axis of a rank-2 or rank-3 array, at a fiber of different values: its
  `j`-th value is the value of rank `j`, its `j`-th index that value's position.
-/
module

public import proofs.«01_k».proof.Proof.TopK
public import Idealize.ShloMosaic.Lib.Pipeline.Value
public import Idealize.ShloMosaic.Lib.ValueIdx
public import Idealize.ShloMosaic.PureOps.Ideal.Laws

@[expose] public section

noncomputable section

open Idealize.ShloMosaic

namespace Cert.TopK

/-- The descending comparison of the host's sort. -/
theorem before_eq (a b : EReal) : (FloatOps.cmpfTotal (F := Ideal) (φ := .f32) .gt a b == 1#1) = decide (b < a) := by
  rw [Ideal.cmpfTotal_def]
  show (Ideal.cmp .ogt a b == 1#1) = decide (b < a)
  unfold Ideal.cmp
  by_cases h : b < a <;> simp [h]

section
variable {p q n k : ℕ}

/-- Moving along the last axis of a matrix changes the column alone. -/
theorem along2 (i : Fin p) (j l : Fin n) :
    Shape.Idx.along (s := ⟨2, ![p, n]⟩) (ValueIdx.ix2 i j) 1 l = ValueIdx.ix2 i l := by
  funext a
  match a with
  | ⟨0, _⟩ => rfl
  | ⟨1, _⟩ => rfl

/-- Moving along the last axis of a rank-3 array changes the last coordinate alone. -/
theorem along3 (i : Fin p) (t : Fin q) (j l : Fin n) :
    Shape.Idx.along (s := ⟨3, ![p, q, n]⟩) (ValueIdx.ix3 i t j) 2 l = ValueIdx.ix3 i t l := by
  funext a
  match a with
  | ⟨0, _⟩ => rfl
  | ⟨1, _⟩ => rfl
  | ⟨2, _⟩ => rfl

/-- The values of a rank-3 top-k. -/
theorem topK3 (x : Shape.Idx ⟨3, ![p, q, n]⟩ → EReal) (h : Shape.Slices ⟨3, ![p, q, n]⟩ (fun _ => 0) ⟨3, ![p, q, k]⟩)
    (hk : k ≤ n) (i : Fin p) (t : Fin q) (hv : Function.Injective fun l => x (ValueIdx.ix3 i t l)) (j : Fin k) :
    (Host.topK ⟨3, ![p, q, k]⟩ 2 (FloatOps.cmpfTotal (F := Ideal) (φ := .f32) .gt) x h).1 (ValueIdx.ix3 i t j)
      = x (ValueIdx.ix3 i t (unrank hv (j.castLE hk))) := by
  unfold Host.topK Host.sort2
  dsimp only
  refine (extractStridedSlice_apply (fun _ => 0) _ h (ValueIdx.ix3 i t j) (ValueIdx.ix3 i t (j.castLE hk)) fun a => ?_).trans ?_
  · match a with
    | ⟨0, _⟩ => exact (Nat.zero_add _).symm
    | ⟨1, _⟩ => exact (Nat.zero_add _).symm
    | ⟨2, _⟩ => exact (Nat.zero_add _).symm
  · rw [dif_pos (show 2 < Shape.rank ⟨3, ![p, q, n]⟩ from Nat.lt_succ_self 2)]
    refine congrArg x ((along3 i t _ _).trans ?_)
    rw [← sortedFrom_desc hv]
    refine congrArg (ValueIdx.ix3 i t) ?_
    refine congrArg (fun b => sortedFrom b (j.castLE hk)) ?_
    funext l l'
    exact (before_eq _ _).trans (congrArg₂ (fun u v => decide (x u < x v)) (along3 i t _ l') (along3 i t _ l))

/-- The positions of a rank-2 top-k. -/
theorem topK2 (x : Shape.Idx ⟨2, ![p, n]⟩ → EReal) (h : Shape.Slices ⟨2, ![p, n]⟩ (fun _ => 0) ⟨2, ![p, k]⟩)
    (hk : k ≤ n) (i : Fin p) (hv : Function.Injective fun l => x (ValueIdx.ix2 i l)) (j : Fin k) :
    (Host.topK ⟨2, ![p, k]⟩ 1 (FloatOps.cmpfTotal (F := Ideal) (φ := .f32) .gt) x h).2 (ValueIdx.ix2 i j)
      = BitVec.ofNat 32 (unrank hv (j.castLE hk)).val := by
  unfold Host.topK Host.sort2
  dsimp only
  refine (extractStridedSlice_apply (fun _ => 0) _ h (ValueIdx.ix2 i j) (ValueIdx.ix2 i (j.castLE hk)) fun a => ?_).trans ?_
  · match a with
    | ⟨0, _⟩ => exact (Nat.zero_add _).symm
    | ⟨1, _⟩ => exact (Nat.zero_add _).symm
  · rw [dif_pos (show 1 < Shape.rank ⟨2, ![p, n]⟩ from Nat.lt_succ_self 1)]
    show iotaInDim ⟨2, ![p, n]⟩ 32 1 _ = _
    refine (congrArg (iotaInDim ⟨2, ![p, n]⟩ 32 1) (along2 i _ _)).trans (congrArg (BitVec.ofNat 32) (congrArg Fin.val ?_))
    rw [← sortedFrom_desc hv]
    refine congrArg (fun b => sortedFrom b (j.castLE hk)) ?_
    funext l l'
    exact (before_eq _ _).trans (congrArg₂ (fun u v => decide (x u < x v)) (along2 i _ l') (along2 i _ l))

end

end Cert.TopK
-- ==== Proof.Stages.lean ====
/-
  The stages of the reference on whole arrays, each read at an index: the attentions, their means over the largest
  slots, the affine maps, and the pools of the rows at the most attended time steps.
-/
module

public import proofs.«01_k».proof.Proof.HostOps
public import proofs.«01_k».proof.Proof.HostTopK

@[expose] public section

noncomputable section

open Cert.ReferenceIdeal Cert.ReferenceIdeal.Gen Idealize.ShloMosaic Idealize.ShloMosaic.ValueIdx Cert.Spec Cert.HostOps

namespace Cert.Stages

/-- A table of 32 rows of 512 features. -/
abbrev Table := FVec Ideal S32x512 .f32
/-- A number per sample and time step. -/
abbrev Times := FVec Ideal S32x256 .f32

/-- One row of a table. -/
def row (v : Table) (i : Fin 32) : Row := fun e => v (ix2 i e)

/-- One number at every place of a batch. -/
def fill (b : BitVec 32) : Batch := broadcastInDim S32x256x512 ![] bcast_S_S32x256x512 (constant (F := Ideal) S_ .f32 b)

/-- One number at every place of a table. -/
def fillTable (b : BitVec 32) : Table := broadcastInDim S32x512 ![] bcast_S_S32x512 (constant (F := Ideal) S_ .f32 b)

/-- The attentions of a batch to a memory. -/
def slots (y : Batch) (M : Square) : Batch :=
  Host.divf (fill 0x3F800000#32) (addf (fill 0x3F800000#32) (Host.exp (Host.negf (Host.divf
    (Host.dotGeneral dot_S32x256x512_S512x512_S32x256x512_2_1_01_0_n_n none y M)
    (broadcastInDim S32x256x512 ![] bcast_S_S32x256x512 (Host.sqrt (constant (F := Ideal) S_ .f32 0x44000000#32)))))))

/-- The attention of a time step to a slot. -/
theorem slots_apply (y : Batch) (M : Square) (i : Fin 32) (t : Fin 256) (k : Fin 512) :
    slots y M (ix3 i t k) = att (mat M) (sample y i t) k := by
  show Ideal.div (Ideal.ofBits .f32 0x3F800000#32) (Ideal.ofBits .f32 0x3F800000#32 + Ideal.exp (-(Ideal.div
    (Host.dotGeneral (F := Ideal) dot_S32x256x512_S512x512_S32x256x512_2_1_01_0_n_n none y M (ix3 i t k))
    (Ideal.sqrt (Ideal.ofBits .f32 0x44000000#32))))) = _
  rw [Consts.c1, Consts.c512, dotRows, Ideal.sqrt_coe, if_neg (by norm_num), Ideal.div_coe (by positivity), one_div]
  rfl

/-- The memory read back by a batch. -/
def readBack (y : Batch) (M : Square) : Batch :=
  Host.dotGeneral dot_S32x256x512_S512x512_S32x256x512_2_0_01_1_n_n none (slots y M) M

/-- What a time step reads back from a memory. -/
theorem readBack_apply (y : Batch) (M : Square) (i : Fin 32) (t : Fin 256) : sample (readBack y M) i t = aug (mat M) (sample y i t) :=
  funext fun e => (dotCols (slots y M) M i t e).trans <| Finset.sum_congr rfl fun k _ => congrArg (· * _) (slots_apply y M i t k)

/-- The mean of the 33 largest attentions at each time step. -/
def meanTop (a : Batch) : Times :=
  Host.divf (Host.reduceAdd (Host.topK S32x256x33 2 (FloatOps.cmpfTotal .gt) a sliceFits_S32x256x512_S32x256x33).1
    (constant (F := Ideal) S_ .f32 0x00000000#32) reducesTo_S32x256x33_S32x256_d2 h_S_)
    (broadcastInDim S32x256 ![] bcast_S_S32x256 (constant (F := Ideal) S_ .f32 0x42040000#32))

/-- The sum of the 33 largest attentions of a row whose attentions differ. -/
theorem sumTop_apply (y : Batch) (M : Square) (i : Fin 32) (t : Fin 256) (h : Function.Injective (att (mat M) (sample y i t)))
    (a : Batch) (ha : ∀ k, a (ix3 i t k) = att (mat M) (sample y i t) k) :
    Host.reduceAdd (Host.topK S32x256x33 2 (FloatOps.cmpfTotal .gt) a sliceFits_S32x256x512_S32x256x33).1
      (constant (F := Ideal) S_ .f32 0x00000000#32) reducesTo_S32x256x33_S32x256_d2 h_S_ (ix2 i t) = slotSum (mat M) (sample y i t) := by
  have e : (fun k => a (ix3 i t k)) = att (mat M) (sample y i t) := funext ha
  have hv : Function.Injective fun k => a (ix3 i t k) := e ▸ h
  refine (sum3_last h_S_ _ _ (by decide) i t).trans ?_
  unfold slotSum
  rw [← e, TopK.topSum_eq hv 33 (by norm_num)]
  exact Finset.sum_congr rfl fun j _ => TopK.topK3 a _ (by norm_num) i t hv j

/-- The mean of a time step's largest attentions, where that row has no tie. -/
theorem meanTop_apply (y : Batch) (M : Square) (i : Fin 32) (t : Fin 256) (h : Function.Injective (att (mat M) (sample y i t))) :
    meanTop (slots y M) (ix2 i t) = tatt (mat M) (sample y i t) := by
  refine (congrArg₂ Ideal.div (sumTop_apply y M i t h _ (slots_apply y M i t)) Consts.c33).trans ?_
  exact Ideal.div_coe (by norm_num) _

/-- An affine map of a batch. -/
def affine (y : Batch) (W : Square) (b : FVec Ideal S512 .f32) : Batch :=
  addf (Host.dotGeneral dot_S32x256x512_S512x512_S32x256x512_2_0_01_1_n_n none y (transpose S512x512 [1, 0] W transposes_S512x512_S512x512_1_0))
    (broadcastInDim S32x256x512 ![0, 1, 2] bcast_S1x1x512_S32x256x512_0_1_2 (broadcastInDim S1x1x512 ![2] bcast_S512_S1x1x512_2 b))

/-- The affine map at a time step. -/
theorem affine_apply (y : Batch) (W : Square) (b : FVec Ideal S512 .f32) (i : Fin 32) (t : Fin 256) :
    sample (affine y W b) i t = lin (mat W) (fun e => b (ix1 e)) (sample y i t) := by
  funext e
  refine congrArg₂ (· + ·) ((dotCols y _ i t e).trans (Finset.sum_congr rfl fun d _ => congrArg (_ * ·) ?_)) ?_
  · exact transpose_apply [1, 0] W transposes_S512x512_S512x512_1_0 (ix2 d e) (ix2 e d) fun a => match a with
      | ⟨0, _⟩ => rfl
      | ⟨1, _⟩ => rfl
  · refine (broadcastInDim_apply _ bcast_S1x1x512_S32x256x512_0_1_2 _ (ix3 i t e) (ix3 0 0 e) fun a => ?_).trans
      (broadcastInDim_apply _ bcast_S512_S1x1x512_2 b (ix3 0 0 e) (ix1 e) fun a => ?_)
    · match a with
      | ⟨0, _⟩ => rfl
      | ⟨1, _⟩ => rfl
      | ⟨2, _⟩ => rfl
    · match a with
      | ⟨0, _⟩ => rfl

section Pools

/-- Positions as the gather takes them: a negative one would count from the end. -/
def wrapped (ind : IVec S32x17 32) : IVec S32x17x1 32 :=
  select (cmpi .slt (broadcastInDim S32x17x1 ![0, 1] bcast_S32x17_S32x17x1_0_1 ind) (broadcastInDim S32x17x1 ![] bcast_S_S32x17x1 (constantI S_ 32 0#32)))
    (addi (broadcastInDim S32x17x1 ![0, 1] bcast_S32x17_S32x17x1_0_1 ind) (broadcastInDim S32x17x1 ![] bcast_S_S32x17x1 (constantI S_ 32 256#32)))
    (broadcastInDim S32x17x1 ![0, 1] bcast_S32x17_S32x17x1_0_1 ind)

/-- Whether each position lies in a sample. -/
def inRange (ind : IVec S32x17 32) : IVec S32x17x1 1 :=
  andi (cmpi .sge (wrapped ind) (broadcastInDim S32x17x1 ![] bcast_S_S32x17x1 (constantI S_ 32 0#32)))
    (cmpi .sle (wrapped ind) (broadcastInDim S32x17x1 ![0, 1, 2] bcast_S1x1x1_S32x17x1_0_1_2
      (broadcastInDim S1x1x1 ![2] bcast_S1_S1x1x1_2 (constantI S1 32 255#32))))

/-- The rows of a batch at the positions, and a filling where a position lies outside. -/
def rowsOf (ind : IVec S32x17 32) (y : Batch) : FVec Ideal S32x17x512 .f32 :=
  select (broadcastInDim S32x17x512 ![0, 1] bcast_S32x17_S32x17x512_0_1
      (Host.reduce IntOp.andi (inRange ind) (constantI S_ 1 1#1) reducesTo_S32x17x1_S32x17_d2 h_S_))
    (Host.gather rowsAt y (wrapped ind))
    (broadcastInDim S32x17x512 ![] bcast_S_S32x17x512 (constant (F := Ideal) S_ .f32 0x7FC00000#32))

/-- What the comparisons say of a position below 256. -/
theorem position (n : Fin 256) : IntOp.cmpi .slt (BitVec.ofNat 32 n.val) 0#32 = 0#1
    ∧ IntOp.andi (IntOp.cmpi .sge (BitVec.ofNat 32 n.val) 0#32) (IntOp.cmpi .sle (BitVec.ofNat 32 n.val) 255#32) = 1#1
    ∧ (BitVec.ofNat 32 n.val).toInt.toNat = n.val := by
  revert n; decide +kernel

variable (ind : IVec S32x17 32) (n : Fin 32 → Fin 17 → Fin 256) (h : ∀ i j, ind (ix2 i j) = BitVec.ofNat 32 (n i j).val)
include h

/-- A position that is not negative stays itself. -/
theorem wrapped_apply (i : Fin 32) (j : Fin 17) (z : Fin 1) : wrapped ind (ix3 i j z) = BitVec.ofNat 32 (n i j).val := by
  have hb : broadcastInDim S32x17x1 ![0, 1] bcast_S32x17_S32x17x1_0_1 ind (ix3 i j z) = BitVec.ofNat 32 (n i j).val :=
    (broadcastInDim_apply _ bcast_S32x17_S32x17x1_0_1 ind (ix3 i j z) (ix2 i j) fun a => match a with
      | ⟨0, _⟩ => rfl
      | ⟨1, _⟩ => rfl).trans (h i j)
  show Scalar.select (IntOp.cmpi .slt (broadcastInDim S32x17x1 ![0, 1] bcast_S32x17_S32x17x1_0_1 ind (ix3 i j z)) 0#32) _ _ = _
  rw [hb, (position _).1]
  rfl

/-- Every position lies in its sample. -/
theorem inRange_apply (k : S32x17x1.Idx) : inRange ind k = 1#1 := by
  have hk : k = ix3 (k 0) (k 1) (k 2) := funext fun a => match a with
    | ⟨0, _⟩ => rfl
    | ⟨1, _⟩ => rfl
    | ⟨2, _⟩ => rfl
  have hw : wrapped ind k = BitVec.ofNat 32 (n (k 0) (k 1)).val := (congrArg (wrapped ind) hk).trans (wrapped_apply ind n h _ _ _)
  exact (congrArg (fun w => IntOp.andi (IntOp.cmpi .sge w 0#32) (IntOp.cmpi .sle w 255#32)) hw).trans (position _).2.1

/-- The gathered row is the sample's row at that position. -/
theorem rowsOf_apply (y : Batch) (i : Fin 32) (j : Fin 17) (e : Fin 512) : rowsOf ind y (ix3 i j e) = sample y i (n i j) e := by
  have hm : broadcastInDim S32x17x512 ![0, 1] bcast_S32x17_S32x17x512_0_1
      (Host.reduce IntOp.andi (inRange ind) (constantI S_ 1 1#1) reducesTo_S32x17x1_S32x17_d2 h_S_) (ix3 i j e) = 1#1 :=
    (broadcastInDim_apply _ bcast_S32x17_S32x17x512_0_1 _ (ix3 i j e) (ix2 i j) fun a => match a with
      | ⟨0, _⟩ => rfl
      | ⟨1, _⟩ => rfl).trans
    (Host.reduce_andi_one (inRange ind) (constantI S_ 1 1#1) reducesTo_S32x17x1_S32x17_d2 h_S_ (ix2 i j) rfl (inRange_apply ind n h))
  refine (congrArg (fun w => Scalar.select w (Host.gather rowsAt y (wrapped ind) (ix3 i j e)) (Ideal.ofBits .f32 0x7FC00000#32)) hm).trans ?_
  exact gather_apply y _ i j e _ ((congrArg (fun w => w.toInt.toNat) (wrapped_apply ind n h i j 0)).trans (position _).2.2)

end Pools

/-- The mean row of each sample at its 17 most attended time steps. -/
def pooled (τ : Times) (y : Batch) : Table :=
  Host.divf (Host.reduceAdd (rowsOf (Host.topK S32x17 1 (FloatOps.cmpfTotal .gt) τ sliceFits_S32x256_S32x17).2 y)
    (constant (F := Ideal) S_ .f32 0x00000000#32) reducesTo_S32x17x512_S32x512_d1 h_S_) (fillTable 0x41880000#32)

/-- The mean row of a sample at its most attended time steps, where no two are attended equally. -/
theorem pooled_apply (τ : Times) (y : Batch) (hτ : ∀ i, Function.Injective fun t => τ (ix2 i t)) (i : Fin 32) :
    row (pooled τ y) i = Spec.pool (fun t => τ (ix2 i t)) (sample y i) := by
  funext e
  have hs := (sum3_mid h_S_ (rowsOf (Host.topK S32x17 1 (FloatOps.cmpfTotal .gt) τ sliceFits_S32x256_S32x17).2 y)
      reducesTo_S32x17x512_S32x512_d1 (by decide) i e).trans (Finset.sum_congr rfl fun j _ =>
    rowsOf_apply _ (fun i j => TopK.unrank (hτ i) (j.castLE (by norm_num))) (fun i j => TopK.topK2 τ _ (by norm_num) i (hτ i) j) y i j e)
  refine (congrArg₂ Ideal.div hs Consts.c17).trans ((Ideal.div_coe (by norm_num) _).trans ?_)
  unfold Spec.pool
  rw [TopK.topSum_eq (hτ i) 17 (by norm_num)]

end Cert.Stages
-- ==== Proof.Means.lean ====
/-
  Moving a real factor through a sum of extended reals: always when it is at least zero, and for a negative one when no
  term is plus infinity. The divergence's two spellings agree by this: no term of it is plus infinity.
-/
module

public import proofs.«01_k».proof.Proof.Spec

@[expose] public section

noncomputable section

open Idealize.ShloMosaic Cert.Spec

namespace Cert.Means

/-- A sum times a real at least zero is the sum of the products. -/
theorem sum_mul_nonneg {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

/-- A sum of numbers of which none is plus infinity is not plus infinity. -/
theorem sum_ne_top {ι : Type} (s : Finset ι) (f : ι → EReal) (hf : ∀ i, f i ≠ ⊤) : ∑ i ∈ s, f i ≠ ⊤ := by
  classical
  induction s using Finset.induction_on with
  | empty => simp
  | insert a s ha ih =>
    rw [Finset.sum_insert ha]
    exact (EReal.add_lt_top (hf a) ih).ne

/-- The negative of a sum of which no term is plus infinity is the sum of the negatives. -/
theorem sum_neg {ι : Type} (s : Finset ι) (f : ι → EReal) (hf : ∀ i, f i ≠ ⊤) : -(∑ i ∈ s, f i) = ∑ i ∈ s, -f i := by
  classical
  induction s using Finset.induction_on with
  | empty => simp
  | insert a s ha ih =>
    rw [Finset.sum_insert ha, Finset.sum_insert ha, ← ih,
      EReal.neg_add (.inr (sum_ne_top s f hf)) (.inl (hf a)), sub_eq_add_neg]

/-- A sum of which no term is plus infinity, times a real at most zero, is the sum of the products. -/
theorem sum_mul_nonpos {ι : Type} (s : Finset ι) (f : ι → EReal) (hf : ∀ i, f i ≠ ⊤) (c : ℝ) (hc : 0 ≤ c) :
    (∑ i ∈ s, f i) * ((-c : ℝ) : EReal) = ∑ i ∈ s, f i * ((-c : ℝ) : EReal) := by
  rw [EReal.coe_neg, mul_comm, neg_mul_comm, mul_comm, sum_neg s f hf, sum_mul_nonneg s _ c hc]
  exact Finset.sum_congr rfl fun i _ => by rw [mul_comm, ← neg_mul_comm, mul_comm]

/-- A difference of a number that is not plus infinity and one at least zero is not plus infinity. -/
theorem sub_ne_top {x y : EReal} (hx : x ≠ ⊤) (hy : 0 ≤ y) : x - y ≠ ⊤ := by
  rw [sub_eq_add_neg]
  refine (EReal.add_lt_top hx fun h => ?_).ne
  rw [EReal.neg_eq_top_iff] at h
  exact absurd (h ▸ hy) (by simp)

/-- The exponential is at least zero. -/
theorem exp_nonneg (x : EReal) : 0 ≤ Ideal.exp x := by
  induction x with
  | bot => simp
  | top => simp
  | coe r => simpa using (Real.exp_pos r).le

/-- A square is at least zero. -/
theorem square_nonneg (x : EReal) : 0 ≤ x * x := by
  induction x with
  | bot => simp
  | top => simp
  | coe r => exact_mod_cast mul_self_nonneg r

/-- No term of the divergence is plus infinity. -/
theorem klTerm_ne_top (a : Args) (t : Fin 256) (e : Fin 512) : a.klTerm t e ≠ ⊤ := by
  unfold Args.klTerm
  by_cases h : a.var t e = ⊤
  · rw [h, Ideal.exp_top, sub_eq_add_neg _ ⊤, EReal.neg_top, EReal.add_bot]
    exact bot_ne_top
  · exact sub_ne_top (sub_ne_top (EReal.add_lt_top (EReal.coe_ne_top 1) h).ne (square_nonneg _)) (exp_nonneg _)

/-- The divergence as the reference spells it: halved and negated feature by feature, then averaged. -/
theorem divergence (T : Fin 32 → Fin 256 → Fin 512 → EReal) (hT : ∀ i t e, T i t e ≠ ⊤) :
    (∑ i, ∑ e, ((-(1/2) : ℝ) : EReal) * ∑ t, T i t e) * ((1/16384 : ℝ) : EReal)
      = ∑ i, (∑ t, ∑ e, T i t e) * ((-(1/32768) : ℝ) : EReal) := by
  rw [sum_mul_nonneg _ _ _ (by norm_num)]
  refine Finset.sum_congr rfl fun i _ => ?_
  rw [sum_mul_nonneg _ _ _ (by norm_num), sum_mul_nonpos _ _ (fun t => sum_ne_top _ _ (hT i t)) _ (by norm_num)]
  trans ∑ e, ∑ t, T i t e * ((-(1/32768) : ℝ) : EReal)
  · refine Finset.sum_congr rfl fun e _ => ?_
    rw [mul_comm ((-(1/2) : ℝ) : EReal), mul_assoc, ← EReal.coe_mul, show (-(1/2) : ℝ) * (1/16384) = -(1/32768) by norm_num,
      sum_mul_nonpos _ _ (fun t => hT i t e) _ (by norm_num)]
  · rw [Finset.sum_comm]
    exact Finset.sum_congr rfl fun t _ => (sum_mul_nonpos _ _ (hT i t) _ (by norm_num)).symm

end Cert.Means
-- ==== Proof.StageLosses.lean ====
/-
  The reference's losses on whole arrays, each read as the plain mathematics: lengths, unit rows, gaps, means over the
  32 pairs.
-/
module

public import proofs.«01_k».proof.Proof.Stages
public import proofs.«01_k».proof.Proof.Means

@[expose] public section

noncomputable section

open Cert.ReferenceIdeal Cert.ReferenceIdeal.Gen Idealize.ShloMosaic Idealize.ShloMosaic.ValueIdx Cert.Spec Cert.HostOps

namespace Cert.Stages

/-- A number per pair. -/
abbrev Pairs := FVec Ideal S32 .f32

/-- The sum of the squares of each row. -/
def squares (v : Table) : Pairs :=
  Host.reduceAdd (mulf v v) (constant (F := Ideal) S_ .f32 0x00000000#32) reducesTo_S32x512_S32_d1 h_S_

/-- The sum of squares of a row. -/
theorem squares_apply (v : Table) (i : Fin 32) : squares v (ix1 i) = ∑ e, row v i e * row v i e :=
  sum2_last h_S_ (mulf v v) reducesTo_S32x512_S32_d1 (by decide) i

/-- The length of each row. -/
def lengths (v : Table) : Pairs := Host.sqrt (squares v)

/-- The length of a row. -/
theorem lengths_apply (v : Table) (i : Fin 32) : lengths v (ix1 i) = norm (row v i) := congrArg Ideal.sqrt (squares_apply v i)

/-- Each row over its length. -/
def units (v : Table) : Table :=
  Host.divf v (broadcastInDim S32x512 ![0, 1] bcast_S32x1_S32x512_0_1 (Host.sqrt (broadcastInDim S32x1 ![0] bcast_S32_S32x1_0 (squares v))))

/-- A row of the quotients is that row over its length. -/
theorem units_apply (v : Table) (i : Fin 32) : row (units v) i = unit (row v i) := by
  funext e
  refine congrArg (Ideal.div (row v i e)) ?_
  refine (broadcastInDim_apply _ bcast_S32x1_S32x512_0_1 _ (ix2 i e) (ix2 i 0) fun a => ?_).trans
    (congrArg Ideal.sqrt ((broadcastInDim_apply _ bcast_S32_S32x1_0 (squares v) (ix2 i 0) (ix1 i) fun a => ?_).trans (squares_apply v i)))
  · match a with
    | ⟨0, _⟩ => rfl
    | ⟨1, _⟩ => rfl
  · match a with
    | ⟨0, _⟩ => rfl

/-- The distance of two tables row by row. -/
def gaps (u v : Table) : Pairs := Host.sqrt (squares (addf (subf u v) (fillTable 0x358637BD#32)))

/-- The distance of two tables at a row is the distance of the rows. -/
theorem gaps_apply (u v : Table) (i : Fin 32) : gaps u v (ix1 i) = gap (row u i) (row v i) :=
  congrArg Ideal.sqrt (squares_apply _ i)

/-- A table regarded as one row per pair and averaged over that row alone. -/
def alone (v : Table) : Table :=
  Host.divf (Host.reduceAdd (shapeCast S32x1x512 v shapeCasts_S32x512_S32x1x512) (constant (F := Ideal) S_ .f32 0x00000000#32)
    reducesTo_S32x1x512_S32x512_d1 h_S_) (fillTable 0x3F800000#32)

/-- Averaging over one row alone changes nothing. -/
theorem alone_apply (v : Table) (i : Fin 32) : row (alone v) i = row v i := by
  funext e
  have hc : shapeCast S32x1x512 v shapeCasts_S32x512_S32x1x512 (ix3 i 0 e) = v (ix2 i e) :=
    shapeCast_apply v shapeCasts_S32x512_S32x1x512 (ix3 i 0 e) (ix2 i e) <| by
      refine (Shape.rowMajor_val_two (d := ![32, 512]) _).trans (Eq.trans ?_ (Shape.rowMajor_val_three (d := ![32, 1, 512]) _).symm)
      show i.val * 512 + e.val = (i.val * 1 + 0) * 512 + e.val
      omega
  refine (congrArg₂ Ideal.div ((sum3_mid h_S_ _ reducesTo_S32x1x512_S32x512_d1 (by decide) i e).trans
    ((Fin.sum_univ_one _).trans hc)) Consts.c1).trans ((Ideal.div_coe one_ne_zero _).trans ?_)
  rw [one_div, inv_one, EReal.coe_one, mul_one]
  rfl

/-- One number per pair. -/
def fillPairs (b : BitVec 32) : Pairs := broadcastInDim S32 ![] bcast_S_S32 (constant (F := Ideal) S_ .f32 b)

/-- The mean over the pairs. -/
def meanPairs (z : Pairs) : FVec Ideal S_ .f32 :=
  Host.divf (Host.reduceAdd z (constant (F := Ideal) S_ .f32 0x00000000#32) reducesTo_S32_S_d0 h_S_) (constant (F := Ideal) S_ .f32 0x42000000#32)

/-- The host's sum over the pairs. -/
theorem sum1 (z : Pairs) (j : S_.Idx) :
    Host.reduceAdd z (constant (F := Ideal) S_ .f32 0x00000000#32) reducesTo_S32_S_d0 h_S_ j = ∑ i, z (ix1 i) :=
  (Ideal.hostReduceAdd_total reducesTo_S32_S_d0 (fun b => b.elim0) z (Ideal.ofBits .f32 0x00000000#32) j).trans <|
    (congrArg₂ (· + ·) Ideal.ofBits_zero_f32 (Fintype.sum_equiv
      ⟨fun i => i 0, fun k => ix1 k, fun i => funext fun a => by match a with | ⟨0, _⟩ => rfl, fun _ => rfl⟩ _ _
      fun i => congrArg z (funext fun a => by match a with | ⟨0, _⟩ => rfl))).trans (zero_add _)

/-- The mean over the pairs is the sum of a 32nd of each. -/
theorem meanPairs_apply (z : Pairs) (j : S_.Idx) : meanPairs z j = ∑ i, z (ix1 i) * ((1/32 : ℝ) : EReal) := by
  refine (congrArg₂ Ideal.div (sum1 z j) Consts.c32).trans ((Ideal.div_coe (by norm_num) _).trans ?_)
  exact Means.sum_mul_nonneg _ _ _ (by norm_num)

/-- The pairs' triplet losses. -/
def triplets (nn na aa : Table) : Pairs :=
  maximumf (addf (subf (gaps (units nn) (units na)) (gaps (units nn) (units aa))) (fillPairs 0x3F800000#32)) (fillPairs 0x00000000#32)

/-- The triplet loss of a pair, from its three mean rows. -/
theorem triplets_apply (nn na aa : Table) (i : Fin 32) :
    triplets nn na aa (ix1 i) = max (gap (unit (row nn i)) (unit (row na i)) - gap (unit (row nn i)) (unit (row aa i)) + ((1 : ℝ) : EReal)) 0 := by
  refine congrArg₂ max (congrArg₂ (· + ·) (congrArg₂ (· - ·) ?_ ?_) Consts.c1) Ideal.ofBits_zero_f32
  · exact (gaps_apply _ _ i).trans (congrArg₂ gap (units_apply nn i) (units_apply na i))
  · exact (gaps_apply _ _ i).trans (congrArg₂ gap (units_apply nn i) (units_apply aa i))

/-- The pairs' distance losses. -/
def distances (aa nn : Table) : Pairs :=
  maximumf (addf (subf (fillPairs 0x42C80000#32) (lengths (alone aa))) (lengths (alone nn))) (fillPairs 0x00000000#32)

/-- The distance loss of a pair, from its two mean rows. -/
theorem distances_apply (aa nn : Table) (i : Fin 32) :
    distances aa nn (ix1 i) = max (((100 : ℝ) : EReal) - norm (row aa i) + norm (row nn i)) 0 := by
  refine congrArg₂ max (congrArg₂ (· + ·) (congrArg₂ (· - ·) Consts.c100 ?_) ?_) Ideal.ofBits_zero_f32
  · exact (lengths_apply _ i).trans (congrArg norm (alone_apply aa i))
  · exact (lengths_apply _ i).trans (congrArg norm (alone_apply nn i))

/-- The divergence of the samples with means `μ` and logarithmic variances `v`. -/
def divergence (μ v : Batch) : FVec Ideal S_ .f32 :=
  Host.divf (Host.reduceAdd (mulf (fillTable 0xBF000000#32) (Host.reduceAdd
      (subf (subf (addf (fill 0x3F800000#32) v) (mulf μ μ)) (Host.exp v)) (constant (F := Ideal) S_ .f32 0x00000000#32)
      reducesTo_S32x256x512_S32x512_d1 h_S_)) (constant (F := Ideal) S_ .f32 0x00000000#32) reducesTo_S32x512_S_d0_1 h_S_)
    (constant (F := Ideal) S_ .f32 0x46800000#32)

/-- The reference's divergence is the sum of the pairs', each scaled as the kernel scales it. -/
theorem divergence_apply (P : Fin 32 → Args) (μ v : Batch) (hμ : ∀ i, sample μ i = (P i).mu) (hv : ∀ i, sample v i = (P i).var) (j : S_.Idx) :
    divergence μ v j = ∑ i, (P i).kl * ((-(1/32768) : ℝ) : EReal) := by
  have inner : ∀ (i : Fin 32) (e : Fin 512), Host.reduceAdd
      (subf (subf (addf (fill 0x3F800000#32) v) (mulf μ μ)) (Host.exp v)) (constant (F := Ideal) S_ .f32 0x00000000#32)
      reducesTo_S32x256x512_S32x512_d1 h_S_ (ix2 i e) = ∑ t, (P i).klTerm t e := fun i e => by
    refine (sum3_mid h_S_ _ reducesTo_S32x256x512_S32x512_d1 (by decide) i e).trans (Finset.sum_congr rfl fun t _ => ?_)
    unfold Args.klTerm
    rw [← hμ, ← hv, ← Consts.c1]
    rfl
  have outer := (Ideal.hostReduceAdd_total reducesTo_S32x512_S_d0_1 (fun b => b.elim0) (mulf (fillTable 0xBF000000#32) (Host.reduceAdd
      (subf (subf (addf (fill 0x3F800000#32) v) (mulf μ μ)) (Host.exp v)) (constant (F := Ideal) S_ .f32 0x00000000#32)
      reducesTo_S32x256x512_S32x512_d1 h_S_)) (Ideal.ofBits .f32 0x00000000#32) j).trans
    ((congrArg₂ (· + ·) Ideal.ofBits_zero_f32 ((sum_idx2 _).trans (Finset.sum_congr rfl fun i _ => Finset.sum_congr rfl fun e _ =>
      congrArg₂ (· * ·) Consts.cNegHalf (inner i e)))).trans (zero_add _))
  refine (congrArg₂ Ideal.div outer Consts.c16384).trans ((Ideal.div_coe (by norm_num) _).trans ?_)
  exact Means.divergence _ fun i t e => Means.klTerm_ne_top (P i) t e

end Cert.Stages
-- ==== Proof.Reference.lean ====
/-
  What the reference returns, as plain mathematics: its arrays are the stages of its program, and each stage is read as
  the definitions say.
-/
module

public import proofs.«01_k».proof.Proof.StageLosses
public import proofs.«01_k».proof.Proof.Losses
public import proofs.«01_k».proof.Proof.Input
public import proofs.«01_k».proof.Proof.Results

@[expose] public section

noncomputable section

open Cert.ReferenceIdeal Cert.ReferenceIdeal.Gen Cert.ReferenceIdeal.Read Idealize.ShloMosaic Idealize.ShloMosaic.ValueIdx
open Cert.Spec Cert.HostOps Cert.Stages

namespace Cert.Reference

variable (x0 : FVec Ideal S64x256x512 .f32) (x1 x2 x3 x5 : Square) (x4 x6 : FVec Ideal S512 .f32) (x7 : Batch)

/-- The first half of the input is the normal samples. -/
theorem nx_eq (i : Fin 32) : sample (val_main_v0 (F := Ideal) x0) i = (pairOf x0 x1 x2 x3 x4 x5 x6 x7 i).nx := by
  funext t d
  refine (val_main_v0_apply (F := Ideal) x0 (ix3 i t d)).trans (congrArg x0 (funext fun a => ?_))
  match a with
  | ⟨0, _⟩ => rfl
  | ⟨1, _⟩ => rfl
  | ⟨2, _⟩ => rfl

/-- The second half of the input is the abnormal samples. -/
theorem ax_eq (i : Fin 32) : sample (val_main_v1 (F := Ideal) x0) i = (pairOf x0 x1 x2 x3 x4 x5 x6 x7 i).ax := by
  funext t d
  refine (val_main_v1_apply (F := Ideal) x0 (ix3 i t d)).trans (congrArg x0 (funext fun a => ?_))
  match a with
  | ⟨0, _⟩ => rfl
  | ⟨1, _⟩ => rfl
  | ⟨2, _⟩ => rfl

section Samples

/-- An affine map of a memory read back, for a batch `y` whose samples are known. -/
theorem affine_readBack (y : Batch) (s : Fin 32 → Sample) (hy : ∀ i, sample y i = s i) (M W : Square) (b : FVec Ideal S512 .f32) (i : Fin 32) :
    sample (affine (readBack y M) W b) i = fun t => lin (mat W) (fun e => b (ix1 e)) (aug (mat M) (s i t)) := by
  funext t
  rw [affine_apply, readBack_apply, hy]

/-- The reference's mean of a normal sample. -/
theorem mu_eq (i : Fin 32) : sample (val_main_v105 (F := Ideal) x0 x2 x3 x4) i = (pairOf x0 x1 x2 x3 x4 x5 x6 x7 i).mu :=
  affine_readBack (val_main_v0 (F := Ideal) x0) _ (nx_eq x0 x1 x2 x3 x5 x4 x6 x7) x2 x3 x4 i

/-- The reference's logarithmic variance of a normal sample. -/
theorem var_eq (i : Fin 32) : sample (val_main_v110 (F := Ideal) x0 x2 x5 x6) i = (pairOf x0 x1 x2 x3 x4 x5 x6 x7 i).var :=
  affine_readBack (val_main_v0 (F := Ideal) x0) _ (nx_eq x0 x1 x2 x3 x5 x4 x6 x7) x2 x5 x6 i

/-- The reference's resampled normal sample. -/
theorem newN_eq (i : Fin 32) : sample (val_main_v114 (F := Ideal) x0 x2 x3 x4 x5 x6 x7) i = (pairOf x0 x1 x2 x3 x4 x5 x6 x7 i).newN := by
  funext t e
  exact congrArg₂ (· + ·) (congrFun (congrFun (mu_eq x0 x1 x2 x3 x5 x4 x6 x7 i) t) e) (congrArg (fun v => (pairOf x0 x1 x2 x3 x4 x5 x6 x7 i).ep t e * Ideal.sqrt (Ideal.exp v))
    (congrFun (congrFun (var_eq x0 x1 x2 x3 x5 x4 x6 x7 i) t) e))

/-- The reference's abnormal sample from the abnormal memory. -/
theorem newA_eq (i : Fin 32) : sample (val_main_v128 (F := Ideal) x0 x1 x3 x4) i = (pairOf x0 x1 x2 x3 x4 x5 x6 x7 i).newA :=
  affine_readBack (val_main_v1 (F := Ideal) x0) _ (ax_eq x0 x1 x2 x3 x5 x4 x6 x7) x1 x3 x4 i

/-- The reference's normal sample from the abnormal memory. -/
theorem memN_eq (i : Fin 32) : sample (val_main_v153 (F := Ideal) x0 x1 x3 x4) i = (pairOf x0 x1 x2 x3 x4 x5 x6 x7 i).memN :=
  affine_readBack (val_main_v0 (F := Ideal) x0) _ (nx_eq x0 x1 x2 x3 x5 x4 x6 x7) x1 x3 x4 i

/-- The reference's abnormal sample from the normal memory. -/
theorem memA_eq (i : Fin 32) : sample (val_main_v158 (F := Ideal) x0 x2 x3 x4) i = (pairOf x0 x1 x2 x3 x4 x5 x6 x7 i).memA :=
  affine_readBack (val_main_v1 (F := Ideal) x0) _ (ax_eq x0 x1 x2 x3 x5 x4 x6 x7) x2 x3 x4 i

end Samples

section Attentions

/-- The mean attentions of a batch whose samples are known, where a row's attentions differ. -/
theorem meanTop_of (y : Batch) (s : Fin 32 → Sample) (hy : ∀ i, sample y i = s i) (M : Square) (i : Fin 32) (t : Fin 256)
    (h : Function.Injective (att (mat M) (s i t))) : meanTop (slots y M) (ix2 i t) = tatt (mat M) (s i t) := by
  have := meanTop_apply y M i t (by rw [hy]; exact h)
  rwa [hy] at this

/-- A number per sample and time step as a column. -/
theorem column_of (τ : Times) (v : Args → Fin 256 → EReal) (j : S32x256x1.Idx) (h : τ (ix2 (j 0) (j 1)) = v (pairOf x0 x1 x2 x3 x4 x5 x6 x7 (j 0)) (j 1)) :
    broadcastInDim S32x256x1 ![0, 1] bcast_S32x256_S32x256x1_0_1 τ j = column (pairOf x0 x1 x2 x3 x4 x5 x6 x7) v j :=
  (broadcastInDim_apply _ bcast_S32x256_S32x256x1_0_1 τ j (ix2 (j 0) (j 1)) fun a => match a with
    | ⟨0, _⟩ => rfl
    | ⟨1, _⟩ => rfl).trans h

/-- The reference's attention of an abnormal sample to the abnormal memory, where that row has no tie. -/
theorem tAA_eq (i : Fin 32) (t : Fin 256) (h : Function.Injective (att (pairOf x0 x1 x2 x3 x4 x5 x6 x7 i).AM ((pairOf x0 x1 x2 x3 x4 x5 x6 x7 i).ax t))) :
    val_main_v16 (F := Ideal) x0 x1 (ix2 i t) = (pairOf x0 x1 x2 x3 x4 x5 x6 x7 i).tAA t :=
  meanTop_of (val_main_v1 (F := Ideal) x0) _ (ax_eq x0 x1 x2 x3 x5 x4 x6 x7) x1 i t h

/-- The reference's attention of an abnormal sample to the normal memory, where that row has no tie. -/
theorem tNA_eq (i : Fin 32) (t : Fin 256) (h : Function.Injective (att (pairOf x0 x1 x2 x3 x4 x5 x6 x7 i).NM ((pairOf x0 x1 x2 x3 x4 x5 x6 x7 i).ax t))) :
    val_main_v31 (F := Ideal) x0 x2 (ix2 i t) = (pairOf x0 x1 x2 x3 x4 x5 x6 x7 i).tNA t :=
  meanTop_of (val_main_v1 (F := Ideal) x0) _ (ax_eq x0 x1 x2 x3 x5 x4 x6 x7) x2 i t h

/-- The reference's attention of a normal sample to the abnormal memory, where that row has no tie. -/
theorem tAN_eq (i : Fin 32) (t : Fin 256) (h : Function.Injective (att (pairOf x0 x1 x2 x3 x4 x5 x6 x7 i).AM ((pairOf x0 x1 x2 x3 x4 x5 x6 x7 i).nx t))) :
    val_main_v46 (F := Ideal) x0 x1 (ix2 i t) = (pairOf x0 x1 x2 x3 x4 x5 x6 x7 i).tAN t :=
  meanTop_of (val_main_v0 (F := Ideal) x0) _ (nx_eq x0 x1 x2 x3 x5 x4 x6 x7) x1 i t h

/-- The reference's attention of a normal sample to the normal memory, where that row has no tie. -/
theorem tNN_eq (i : Fin 32) (t : Fin 256) (h : Function.Injective (att (pairOf x0 x1 x2 x3 x4 x5 x6 x7 i).NM ((pairOf x0 x1 x2 x3 x4 x5 x6 x7 i).nx t))) :
    val_main_v61 (F := Ideal) x0 x2 (ix2 i t) = (pairOf x0 x1 x2 x3 x4 x5 x6 x7 i).tNN t :=
  meanTop_of (val_main_v0 (F := Ideal) x0) _ (nx_eq x0 x1 x2 x3 x5 x4 x6 x7) x2 i t h

end Attentions

section Tables

/-- The pool of a batch whose samples are known, at the time steps where the mean attentions to a memory are largest. -/
theorem pooled_of (τ : Times) (y : Batch) (s z : Fin 32 → Sample) (M : Mat) (hy : ∀ i, sample y i = s i)
    (hR : ∀ i, Args.RowsDistinct M (z i)) (hT : ∀ i, Args.TimesDistinct M (z i))
    (hτ : ∀ i t, Function.Injective (att M (z i t)) → τ (ix2 i t) = tatt M (z i t)) (i : Fin 32) :
    row (pooled τ y) i = Spec.pool (fun t => tatt M (z i t)) (s i) := by
  have e : ∀ i, (fun t => τ (ix2 i t)) = fun t => tatt M (z i t) := fun i => funext fun t => hτ i t (hR i t)
  have := pooled_apply τ y (fun i => (e i).symm ▸ tatt_injective (hT i)) i
  rw [e, hy] at this
  exact this

variable (hN : ∀ i, Args.RowsDistinct (pairOf x0 x1 x2 x3 x4 x5 x6 x7 i).NM (pairOf x0 x1 x2 x3 x4 x5 x6 x7 i).nx) (hN' : ∀ i, Args.TimesDistinct (pairOf x0 x1 x2 x3 x4 x5 x6 x7 i).NM (pairOf x0 x1 x2 x3 x4 x5 x6 x7 i).nx)
  (hA : ∀ i, Args.RowsDistinct (pairOf x0 x1 x2 x3 x4 x5 x6 x7 i).AM (pairOf x0 x1 x2 x3 x4 x5 x6 x7 i).ax) (hA' : ∀ i, Args.TimesDistinct (pairOf x0 x1 x2 x3 x4 x5 x6 x7 i).AM (pairOf x0 x1 x2 x3 x4 x5 x6 x7 i).ax)
  (hX : ∀ i, Args.RowsDistinct (pairOf x0 x1 x2 x3 x4 x5 x6 x7 i).NM (pairOf x0 x1 x2 x3 x4 x5 x6 x7 i).ax) (hX' : ∀ i, Args.TimesDistinct (pairOf x0 x1 x2 x3 x4 x5 x6 x7 i).NM (pairOf x0 x1 x2 x3 x4 x5 x6 x7 i).ax)

include hA hA' in
/-- The mean row at the time steps where the abnormal sample attends most to the abnormal memory. -/
theorem poolA_of (y : Batch) (s : Fin 32 → Sample) (hy : ∀ i, sample y i = s i) (i : Fin 32) :
    row (pooled (val_main_v16 (F := Ideal) x0 x1) y) i = Spec.pool (pairOf x0 x1 x2 x3 x4 x5 x6 x7 i).tAA (s i) :=
  pooled_of _ y s (fun i => (pairOf x0 x1 x2 x3 x4 x5 x6 x7 i).ax) (mat x1) hy hA hA' (fun i t h => tAA_eq x0 x1 x2 x3 x5 x4 x6 x7 i t h) i

include hN hN' in
/-- The mean row at the time steps where the normal sample attends most to the normal memory. -/
theorem poolN_of (y : Batch) (s : Fin 32 → Sample) (hy : ∀ i, sample y i = s i) (i : Fin 32) :
    row (pooled (val_main_v61 (F := Ideal) x0 x2) y) i = Spec.pool (pairOf x0 x1 x2 x3 x4 x5 x6 x7 i).tNN (s i) :=
  pooled_of _ y s (fun i => (pairOf x0 x1 x2 x3 x4 x5 x6 x7 i).nx) (mat x2) hy hN hN' (fun i t h => tNN_eq x0 x1 x2 x3 x5 x4 x6 x7 i t h) i

include hX hX' in
/-- The mean row at the time steps where the abnormal sample attends most to the normal memory. -/
theorem poolX_of (y : Batch) (s : Fin 32 → Sample) (hy : ∀ i, sample y i = s i) (i : Fin 32) :
    row (pooled (val_main_v31 (F := Ideal) x0 x2) y) i = Spec.pool (pairOf x0 x1 x2 x3 x4 x5 x6 x7 i).tNA (s i) :=
  pooled_of _ y s (fun i => (pairOf x0 x1 x2 x3 x4 x5 x6 x7 i).ax) (mat x2) hy hX hX' (fun i t h => tNA_eq x0 x1 x2 x3 x5 x4 x6 x7 i t h) i

include hN hN' hA hA' hX hX' in
/-- The reference's triplet loss of a pair, where its three selections have no ties. -/
theorem triplet_eq (i : Fin 32) : val_main_v98 (F := Ideal) x0 x1 x2 (ix1 i) = (pairOf x0 x1 x2 x3 x4 x5 x6 x7 i).triplet := by
  refine (triplets_apply (val_main_v71 (F := Ideal) x0 x2) (val_main_v76 (F := Ideal) x0 x2) (val_main_v66 (F := Ideal) x0 x1) i).trans ?_
  have n := poolN_of x0 x1 x2 x3 x5 x4 x6 x7 hN hN' (val_main_v0 (F := Ideal) x0) _ (nx_eq x0 x1 x2 x3 x5 x4 x6 x7) i
  have x := poolX_of x0 x1 x2 x3 x5 x4 x6 x7 hX hX' (val_main_v1 (F := Ideal) x0) _ (ax_eq x0 x1 x2 x3 x5 x4 x6 x7) i
  have a := poolA_of x0 x1 x2 x3 x5 x4 x6 x7 hA hA' (val_main_v1 (F := Ideal) x0) _ (ax_eq x0 x1 x2 x3 x5 x4 x6 x7) i
  unfold Args.triplet
  rw [← n, ← x, ← a]
  rfl

include hN hN' hA hA' in
/-- The reference's distance loss of a pair, where its two selections have no ties. -/
theorem distance_eq (i : Fin 32) : val_main_v164 (F := Ideal) x0 x1 x2 x3 x4 x5 x6 x7 (ix1 i) = (pairOf x0 x1 x2 x3 x4 x5 x6 x7 i).distance := by
  refine (distances_apply (val_main_v133 (F := Ideal) x0 x1 x3 x4) (val_main_v119 (F := Ideal) x0 x2 x3 x4 x5 x6 x7) i).trans ?_
  have n := poolN_of x0 x1 x2 x3 x5 x4 x6 x7 hN hN' (val_main_v114 (F := Ideal) x0 x2 x3 x4 x5 x6 x7) _ (newN_eq x0 x1 x2 x3 x5 x4 x6 x7) i
  have a := poolA_of x0 x1 x2 x3 x5 x4 x6 x7 hA hA' (val_main_v128 (F := Ideal) x0 x1 x3 x4) _ (newA_eq x0 x1 x2 x3 x5 x4 x6 x7) i
  unfold Args.distance
  rw [← n, ← a]
  rfl

end Tables

section Results

/-- A lone number laid out 1×1. -/
theorem scalar_of (z : FVec Ideal S_ .f32) (v : EReal) (h : ∀ k, z k = v) (j : S1x1.Idx) : shapeCast S1x1 z shapeCasts_S_S1x1 j = v :=
  h _

/-- The reference's triplet loss is the mean over the pairs. -/
theorem tml (hN : ∀ i, Args.RowsDistinct (pairOf x0 x1 x2 x3 x4 x5 x6 x7 i).NM (pairOf x0 x1 x2 x3 x4 x5 x6 x7 i).nx) (hN' : ∀ i, Args.TimesDistinct (pairOf x0 x1 x2 x3 x4 x5 x6 x7 i).NM (pairOf x0 x1 x2 x3 x4 x5 x6 x7 i).nx)
    (hA : ∀ i, Args.RowsDistinct (pairOf x0 x1 x2 x3 x4 x5 x6 x7 i).AM (pairOf x0 x1 x2 x3 x4 x5 x6 x7 i).ax) (hA' : ∀ i, Args.TimesDistinct (pairOf x0 x1 x2 x3 x4 x5 x6 x7 i).AM (pairOf x0 x1 x2 x3 x4 x5 x6 x7 i).ax)
    (hX : ∀ i, Args.RowsDistinct (pairOf x0 x1 x2 x3 x4 x5 x6 x7 i).NM (pairOf x0 x1 x2 x3 x4 x5 x6 x7 i).ax) (hX' : ∀ i, Args.TimesDistinct (pairOf x0 x1 x2 x3 x4 x5 x6 x7 i).NM (pairOf x0 x1 x2 x3 x4 x5 x6 x7 i).ax) (j : S1x1.Idx) :
    val_main_v172 (F := Ideal) x0 x1 x2 j = tripletMean (pairOf x0 x1 x2 x3 x4 x5 x6 x7) :=
  scalar_of _ _ (fun k => (meanPairs_apply (val_main_v98 (F := Ideal) x0 x1 x2) k).trans (Finset.sum_congr rfl fun i _ =>
    congrArg (· * _) (triplet_eq x0 x1 x2 x3 x5 x4 x6 x7 hN hN' hA hA' hX hX' i))) j

/-- The reference's distance loss is the mean over the pairs. -/
theorem dist (hN : ∀ i, Args.RowsDistinct (pairOf x0 x1 x2 x3 x4 x5 x6 x7 i).NM (pairOf x0 x1 x2 x3 x4 x5 x6 x7 i).nx) (hN' : ∀ i, Args.TimesDistinct (pairOf x0 x1 x2 x3 x4 x5 x6 x7 i).NM (pairOf x0 x1 x2 x3 x4 x5 x6 x7 i).nx)
    (hA : ∀ i, Args.RowsDistinct (pairOf x0 x1 x2 x3 x4 x5 x6 x7 i).AM (pairOf x0 x1 x2 x3 x4 x5 x6 x7 i).ax) (hA' : ∀ i, Args.TimesDistinct (pairOf x0 x1 x2 x3 x4 x5 x6 x7 i).AM (pairOf x0 x1 x2 x3 x4 x5 x6 x7 i).ax) (j : S1x1.Idx) :
    val_main_v174 (F := Ideal) x0 x1 x2 x3 x4 x5 x6 x7 j = distanceMean (pairOf x0 x1 x2 x3 x4 x5 x6 x7) :=
  scalar_of _ _ (fun k => (meanPairs_apply (val_main_v164 (F := Ideal) x0 x1 x2 x3 x4 x5 x6 x7) k).trans (Finset.sum_congr rfl fun i _ =>
    congrArg (· * _) (distance_eq x0 x1 x2 x3 x5 x4 x6 x7 hN hN' hA hA' i))) j

/-- The reference's divergence is the mean over the pairs. -/
theorem kl (j : S1x1.Idx) : val_main_v173 (F := Ideal) x0 x2 x3 x4 x5 x6 j = klMean (pairOf x0 x1 x2 x3 x4 x5 x6 x7) :=
  scalar_of _ _ (divergence_apply (pairOf x0 x1 x2 x3 x4 x5 x6 x7) (val_main_v105 (F := Ideal) x0 x2 x3 x4) (val_main_v110 (F := Ideal) x0 x2 x5 x6)
    (mu_eq x0 x1 x2 x3 x5 x4 x6 x7) (var_eq x0 x1 x2 x3 x5 x4 x6 x7)) j

/-- The array of the abnormal samples' attentions to the abnormal memory. -/
theorem aatt (j : S32x256x1.Idx) (h : Function.Injective (att (pairOf x0 x1 x2 x3 x4 x5 x6 x7 (j 0)).AM ((pairOf x0 x1 x2 x3 x4 x5 x6 x7 (j 0)).ax (j 1)))) :
    val_main_v175 (F := Ideal) x0 x1 j = column (pairOf x0 x1 x2 x3 x4 x5 x6 x7) Args.tAA j :=
  column_of x0 x1 x2 x3 x5 x4 x6 x7 _ _ j (tAA_eq x0 x1 x2 x3 x5 x4 x6 x7 _ _ h)

/-- The array of the normal samples' attentions to the normal memory. -/
theorem natt (j : S32x256x1.Idx) (h : Function.Injective (att (pairOf x0 x1 x2 x3 x4 x5 x6 x7 (j 0)).NM ((pairOf x0 x1 x2 x3 x4 x5 x6 x7 (j 0)).nx (j 1)))) :
    val_main_v176 (F := Ideal) x0 x2 j = column (pairOf x0 x1 x2 x3 x4 x5 x6 x7) Args.tNN j :=
  column_of x0 x1 x2 x3 x5 x4 x6 x7 _ _ j (tNN_eq x0 x1 x2 x3 x5 x4 x6 x7 _ _ h)

/-- The array of the normal samples' attentions to the abnormal memory. -/
theorem anatt (j : S32x256x1.Idx) (h : Function.Injective (att (pairOf x0 x1 x2 x3 x4 x5 x6 x7 (j 0)).AM ((pairOf x0 x1 x2 x3 x4 x5 x6 x7 (j 0)).nx (j 1)))) :
    val_main_v177 (F := Ideal) x0 x1 j = column (pairOf x0 x1 x2 x3 x4 x5 x6 x7) Args.tAN j :=
  column_of x0 x1 x2 x3 x5 x4 x6 x7 _ _ j (tAN_eq x0 x1 x2 x3 x5 x4 x6 x7 _ _ h)

/-- The array of the abnormal samples' attentions to the normal memory. -/
theorem naatt (j : S32x256x1.Idx) (h : Function.Injective (att (pairOf x0 x1 x2 x3 x4 x5 x6 x7 (j 0)).NM ((pairOf x0 x1 x2 x3 x4 x5 x6 x7 (j 0)).ax (j 1)))) :
    val_main_v178 (F := Ideal) x0 x2 j = column (pairOf x0 x1 x2 x3 x4 x5 x6 x7) Args.tNA j :=
  column_of x0 x1 x2 x3 x5 x4 x6 x7 _ _ j (tNA_eq x0 x1 x2 x3 x5 x4 x6 x7 _ _ h)

/-- The augmented features of both halves, one half after the other. -/
theorem augmented (g : Fin 2) (i : Fin 32) (t : Fin 256) (e : Fin 512) (r : Fin 64) (hr : r.val = 32 * g.val + i.val) :
    val_main_v169 (F := Ideal) x0 x1 x2 x3 x4 x5 x6 x7 (ix3 r t e)
      = if g.val = 0 then (pairOf x0 x1 x2 x3 x4 x5 x6 x7 i).newN t e + (pairOf x0 x1 x2 x3 x4 x5 x6 x7 i).memN t e else (pairOf x0 x1 x2 x3 x4 x5 x6 x7 i).newA t e + (pairOf x0 x1 x2 x3 x4 x5 x6 x7 i).memA t e := by
  unfold val_main_v169
  split
  · next hg =>
    refine (concatenate_pair_apply_left (t := S64x256x512) (s₁ := S32x256x512) (s₂ := S32x256x512) 0 _ _
      concatenates_S32x256x512_S32x256x512_S64x256x512_d0 (ix3 r t e) rfl (ix3 i t e) fun b => ?_).trans ?_
    · match b with
      | ⟨0, _⟩ => show i.val = r.val; omega
      | ⟨1, _⟩ => rfl
      | ⟨2, _⟩ => rfl
    · exact congrArg₂ (· + ·) (congrFun (congrFun (newN_eq x0 x1 x2 x3 x5 x4 x6 x7 i) t) e) (congrFun (congrFun (memN_eq x0 x1 x2 x3 x5 x4 x6 x7 i) t) e)
  · next hg =>
    refine (concatenate_pair_apply_right (t := S64x256x512) (s₁ := S32x256x512) (s₂ := S32x256x512) 0 _ _
      concatenates_S32x256x512_S32x256x512_S64x256x512_d0 (ix3 r t e) rfl rfl (ix3 i t e) (fun b hb => ?_) ?_).trans ?_
    · match b with
      | ⟨0, _⟩ => exact absurd rfl hb
      | ⟨1, _⟩ => rfl
      | ⟨2, _⟩ => rfl
    · show i.val + 32 = r.val
      omega
    · exact congrArg₂ (· + ·) (congrFun (congrFun (newA_eq x0 x1 x2 x3 x5 x4 x6 x7 i) t) e) (congrFun (congrFun (memA_eq x0 x1 x2 x3 x5 x4 x6 x7 i) t) e)

/-- The samples of both halves. -/
theorem samples (g : Fin 2) (i : Fin 32) (t : Fin 256) (d : Fin 512) (r : Fin 64) (hr : r.val = 32 * g.val + i.val) :
    x0 (ix3 r t d) = if g.val = 0 then (pairOf x0 x1 x2 x3 x4 x5 x6 x7 i).nx t d else (pairOf x0 x1 x2 x3 x4 x5 x6 x7 i).ax t d := by
  split
  · next hg => exact congrArg (fun k => x0 (ix3 k t d)) (Fin.ext (by show r.val = i.val; omega))
  · next hg => exact congrArg (fun k => x0 (ix3 k t d)) (Fin.ext (by show r.val = 32 + i.val; omega))

/-- The input's features and the augmented ones side by side. -/
theorem joined (g : Fin 2) (i : Fin 32) (t : Fin 256) (e : Fin 1024) (r : Fin 64) (hr : r.val = 32 * g.val + i.val) :
    val_main_v170 (F := Ideal) x0 x1 x2 x3 x4 x5 x6 x7 (ix3 r t e) = features (pairOf x0 x1 x2 x3 x4 x5 x6 x7) g i t e := by
  unfold val_main_v170 features
  by_cases h : e.val < 512
  · rw [dif_pos h, dif_pos h]
    refine (concatenate_pair_apply_left (t := S64x256x1024) (s₁ := S64x256x512) (s₂ := S64x256x512) 2 _ _
      concatenates_S64x256x512_S64x256x512_S64x256x1024_d2 (ix3 r t e) rfl (ix3 r t ⟨e.val, h⟩) fun b => ?_).trans
      (samples x0 x1 x2 x3 x5 x4 x6 x7 g i t ⟨e.val, h⟩ r hr)
    match b with
    | ⟨0, _⟩ => rfl
    | ⟨1, _⟩ => rfl
    | ⟨2, _⟩ => rfl
  · rw [dif_neg h, dif_neg h]
    refine (concatenate_pair_apply_right (t := S64x256x1024) (s₁ := S64x256x512) (s₂ := S64x256x512) 2 _ _
      concatenates_S64x256x512_S64x256x512_S64x256x1024_d2 (ix3 r t e) rfl rfl (ix3 r t ⟨e.val - 512, by omega⟩) (fun b hb => ?_) ?_).trans
      (augmented x0 x1 x2 x3 x5 x4 x6 x7 g i t ⟨e.val - 512, by omega⟩ r hr)
    · match b with
      | ⟨0, _⟩ => rfl
      | ⟨1, _⟩ => rfl
      | ⟨2, _⟩ => exact absurd rfl hb
    · show e.val - 512 + 512 = e.val
      omega

/-- The reference's array of features. -/
theorem fm (j : S2x32x256x1024.Idx) : val_main_v171 (F := Ideal) x0 x1 x2 x3 x4 x5 x6 x7 j = featuresArray (pairOf x0 x1 x2 x3 x4 x5 x6 x7) j := by
  have h0 : (j 0).val < 2 := (j 0).isLt
  have h1 : (j 1).val < 32 := (j 1).isLt
  refine (shapeCast_apply _ shapeCasts_S64x256x1024_S2x32x256x1024 j (ix3 ⟨32 * (j 0).val + (j 1).val, by omega⟩ (j 2) (j 3)) ?_).trans
    (joined x0 x1 x2 x3 x5 x4 x6 x7 (j 0) (j 1) (j 2) (j 3) _ rfl)
  refine (Shape.rowMajor_val_three (d := ![64, 256, 1024]) _).trans (Eq.trans ?_ (Shape.rowMajor_val_four (d := ![2, 32, 256, 1024]) _).symm)
  show ((32 * (j 0).val + (j 1).val) * 256 + (j 2).val) * 1024 + (j 3).val = (((j 0).val * 32 + (j 1).val) * 256 + (j 2).val) * 1024 + (j 3).val
  omega

end Results

end Cert.Reference
-- ==== Proof.Mask.lean ====
/-
  What the predicate `no_ties` says where it holds: the attentions of a row differ; and, for the two losses, the
  attentions of every row differ and no sample has two equal sums of its largest attentions.
-/
module

public import proofs.«01_k».proof.Proof.Reference
public import proofs.«01_k».proof.On_no_ties

@[expose] public section

noncomputable section

open Idealize.ShloMosaic Idealize.ShloMosaic.ValueIdx Cert.Spec Cert.HostOps Cert.Stages

namespace Cert.Mask

open Cert.On_no_ties Cert.On_no_ties.Facts

variable [Cert.On_no_ties.Facts]

/-- Two bits are both set where their conjunction is. -/
theorem and_bits : ∀ {a b : BitVec 1}, IntOp.andi a b = 1#1 → a = 1#1 ∧ b = 1#1 := by decide

/-- Two places of equal number are the same place, or two numbers differ, where the bit is set. -/
theorem differ {n : ℕ} (hn : n ≤ 512) (k l : Fin n) (x y : Ideal .f32)
    (h : IntOp.ori (IntOp.cmpi .eq (BitVec.ofNat 32 k.val) (BitVec.ofNat 32 l.val)) (FloatOps.cmpf .une x y) = 1#1)
    (e : (x : EReal) = y) : k = l := by
  have h0 : FloatOps.cmpf .une x y = 0#1 := by
    show BitVec.ofBool (decide ((x : EReal) ≠ y)) = 0#1
    simp [e]
  rw [h0] at h
  have h1 : BitVec.ofBool (BitVec.ofNat 32 k.val == BitVec.ofNat 32 l.val) = 1#1 := by
    have : ∀ b : BitVec 1, IntOp.ori b 0#1 = 1#1 → b = 1#1 := by decide
    exact this _ h
  have h2 : BitVec.ofNat 32 k.val = BitVec.ofNat 32 l.val := by
    by_contra hne
    rw [beq_eq_false_iff_ne.2 hne] at h1
    exact absurd h1 (by decide)
  have h3 := congrArg BitVec.toNat h2
  rw [BitVec.toNat_ofNat, BitVec.toNat_ofNat, Nat.mod_eq_of_lt (by omega), Nat.mod_eq_of_lt (by omega)] at h3
  exact Fin.ext h3

/-- Whether the attentions of each row differ. -/
def rows (a : Batch) : IVec S32x256 1 :=
  Host.reduce IntOp.andi (ori (cmpi .eq (iotaInDim S32x256x512x512 32 2) (iotaInDim S32x256x512x512 32 3))
      (cmpf .une (broadcastInDim S32x256x512x512 ![0, 1, 2] bcast_S32x256x512_S32x256x512x512_0_1_2 a)
        (broadcastInDim S32x256x512x512 ![0, 1, 3] bcast_S32x256x512_S32x256x512x512_0_1_3 a)))
    (constantI S_ 1 1#1) reducesTo_S32x256x512x512_S32x256_d2_3 h_S_

/-- Where the bit of a row is set, its entries are pairwise different. -/
theorem rows_injective (a : Batch) (i : Fin 32) (t : Fin 256) (h : rows a (ix2 i t) = 1#1) :
    Function.Injective fun k => a (ix3 i t k) := by
  intro k l e
  have b := Host.reduce_andi_eq_one _ _ reducesTo_S32x256x512x512_S32x256_d2_3 h_S_ (ix2 i t) h (ix4 i t k l) (funext fun d => by
    match d with
    | ⟨0, _⟩ => rfl
    | ⟨1, _⟩ => rfl)
  have hk : broadcastInDim S32x256x512x512 ![0, 1, 2] bcast_S32x256x512_S32x256x512x512_0_1_2 a (ix4 i t k l) = a (ix3 i t k) :=
    broadcastInDim_apply _ bcast_S32x256x512_S32x256x512x512_0_1_2 a (ix4 i t k l) (ix3 i t k) fun d => match d with
      | ⟨0, _⟩ => rfl
      | ⟨1, _⟩ => rfl
      | ⟨2, _⟩ => rfl
  have hl : broadcastInDim S32x256x512x512 ![0, 1, 3] bcast_S32x256x512_S32x256x512x512_0_1_3 a (ix4 i t k l) = a (ix3 i t l) :=
    broadcastInDim_apply _ bcast_S32x256x512_S32x256x512x512_0_1_3 a (ix4 i t k l) (ix3 i t l) fun d => match d with
      | ⟨0, _⟩ => rfl
      | ⟨1, _⟩ => rfl
      | ⟨2, _⟩ => rfl
  exact differ (by norm_num) k l _ _ b (hk.trans (e.trans hl.symm))

/-- Whether the numbers of each sample's time steps differ. -/
def steps (s : Times) : IVec S32 1 :=
  Host.reduce IntOp.andi (ori (cmpi .eq (iotaInDim S32x256x256 32 1) (iotaInDim S32x256x256 32 2))
      (cmpf .une (broadcastInDim S32x256x256 ![0, 1] bcast_S32x256_S32x256x256_0_1 s)
        (broadcastInDim S32x256x256 ![0, 2] bcast_S32x256_S32x256x256_0_2 s)))
    (constantI S_ 1 1#1) reducesTo_S32x256x256_S32_d1_2 h_S_

/-- Where the bit of a sample is set, its time steps' numbers are pairwise different. -/
theorem steps_injective (s : Times) (i : Fin 32) (h : steps s (ix1 i) = 1#1) : Function.Injective fun t => s (ix2 i t) := by
  intro k l e
  have b := Host.reduce_andi_eq_one _ _ reducesTo_S32x256x256_S32_d1_2 h_S_ (ix1 i) h (ix3 i k l) (funext fun d => by
    match d with
    | ⟨0, _⟩ => rfl)
  have hk : broadcastInDim S32x256x256 ![0, 1] bcast_S32x256_S32x256x256_0_1 s (ix3 i k l) = s (ix2 i k) :=
    broadcastInDim_apply _ bcast_S32x256_S32x256x256_0_1 s (ix3 i k l) (ix2 i k) fun d => match d with
      | ⟨0, _⟩ => rfl
      | ⟨1, _⟩ => rfl
  have hl : broadcastInDim S32x256x256 ![0, 2] bcast_S32x256_S32x256x256_0_2 s (ix3 i k l) = s (ix2 i l) :=
    broadcastInDim_apply _ bcast_S32x256_S32x256x256_0_2 s (ix3 i k l) (ix2 i l) fun d => match d with
      | ⟨0, _⟩ => rfl
      | ⟨1, _⟩ => rfl
  exact differ (by norm_num) k l _ _ b (hk.trans (e.trans hl.symm))

/-- The sums of the 33 largest attentions. -/
def sums (a : Batch) : Times :=
  Host.reduceAdd (Host.topK S32x256x33 2 (FloatOps.cmpfTotal .gt) a sliceFits_S32x256x512_S32x256x33).1
    (constant (F := Ideal) S_ .f32 0x00000000#32) reducesTo_S32x256x33_S32x256_d2 h_S_

/-- Whether a batch's time steps are chosen without a tie. -/
def selects (a : Batch) : IVec S_ 1 :=
  andi (Host.reduce IntOp.andi (rows a) (constantI S_ 1 1#1) reducesTo_S32x256_S_d0_1 h_S_)
    (Host.reduce IntOp.andi (steps (sums a)) (constantI S_ 1 1#1) reducesTo_S32_S_d0 h_S_)

/-- The row of a batch whose samples are known has no two equal attentions where the bit is set. -/
theorem rows_of (y : Batch) (s : Fin 32 → Sample) (hy : ∀ i, sample y i = s i) (M : Square) (i : Fin 32) (t : Fin 256)
    (h : rows (slots y M) (ix2 i t) = 1#1) : Function.Injective (att (mat M) (s i t)) := by
  have e : (fun k => slots y M (ix3 i t k)) = att (mat M) (s i t) := funext fun k => by rw [slots_apply, hy]
  exact e ▸ rows_injective _ i t h

instance : Subsingleton S_.Idx := ⟨fun a b => funext fun d => d.elim0⟩

/-- A batch whose samples are known has no ties where the selecting bit is set. -/
theorem selects_of (y : Batch) (s : Fin 32 → Sample) (hy : ∀ i, sample y i = s i) (M : Square) (j : S_.Idx)
    (h : selects (slots y M) j = 1#1) : (∀ i, Args.RowsDistinct (mat M) (s i)) ∧ ∀ i, Args.TimesDistinct (mat M) (s i) := by
  have hb := and_bits (a := Host.reduce IntOp.andi (rows (slots y M)) (constantI S_ 1 1#1) reducesTo_S32x256_S_d0_1 h_S_ j) h
  have hR : ∀ i, Args.RowsDistinct (mat M) (s i) := fun i t =>
    rows_of y s hy M i t (Host.reduce_andi_all _ _ reducesTo_S32x256_S_d0_1 h_S_ j hb.1 (ix2 i t))
  refine ⟨hR, fun i => ?_⟩
  have hs := steps_injective _ i (Host.reduce_andi_all _ _ reducesTo_S32_S_d0 h_S_ j hb.2 (ix1 i))
  have e : (fun t => sums (slots y M) (ix2 i t)) = fun t => slotSum (mat M) (s i t) := funext fun t => by
    have := sumTop_apply y M i t (by rw [hy]; exact hR i t) _ (slots_apply y M i t)
    rw [hy] at this
    exact this
  show Function.Injective fun t => slotSum (mat M) (s i t)
  rw [← e]
  exact hs

section Read

variable (x0 : FVec Ideal S64x256x512 .f32) (x1 x2 x3 x5 : Square) (x4 x6 : FVec Ideal S512 .f32) (x7 : Batch)

/-- The predicate's bits. -/
theorem fn_eq : fn (F := Ideal) x0 x1 x2 x3 x4 x5 x6 x7
    = (broadcastInDim S2x32x256x1024 ![] bcast_S_S2x32x256x1024 (constantI S_ 1 1#1),
       broadcastInDim S1x1 ![] bcast_S_S1x1 (andi (andi (selects (slots (ReferenceIdeal.Read.val_main_v1 (F := Ideal) x0) x1))
         (selects (slots (ReferenceIdeal.Read.val_main_v0 (F := Ideal) x0) x2))) (selects (slots (ReferenceIdeal.Read.val_main_v1 (F := Ideal) x0) x2))),
       broadcastInDim S1x1 ![] bcast_S_S1x1 (constantI S_ 1 1#1),
       broadcastInDim S1x1 ![] bcast_S_S1x1 (andi (selects (slots (ReferenceIdeal.Read.val_main_v1 (F := Ideal) x0) x1))
         (selects (slots (ReferenceIdeal.Read.val_main_v0 (F := Ideal) x0) x2))),
       broadcastInDim S32x256x1 ![0, 1] bcast_S32x256_S32x256x1_0_1 (rows (slots (ReferenceIdeal.Read.val_main_v1 (F := Ideal) x0) x1)),
       broadcastInDim S32x256x1 ![0, 1] bcast_S32x256_S32x256x1_0_1 (rows (slots (ReferenceIdeal.Read.val_main_v0 (F := Ideal) x0) x2)),
       broadcastInDim S32x256x1 ![0, 1] bcast_S32x256_S32x256x1_0_1 (rows (slots (ReferenceIdeal.Read.val_main_v0 (F := Ideal) x0) x1)),
       broadcastInDim S32x256x1 ![0, 1] bcast_S32x256_S32x256x1_0_1 (rows (slots (ReferenceIdeal.Read.val_main_v1 (F := Ideal) x0) x2))) := by
  unfold fn fn_part1 fn_part2 fn_part3 fn_part4 fn_part5 fn_part6
  rfl

/-- A bit per sample and time step as a column, read at an index. -/
theorem column_bit (r : IVec S32x256 1) (j : S32x256x1.Idx) :
    broadcastInDim S32x256x1 ![0, 1] bcast_S32x256_S32x256x1_0_1 r j = r (ix2 (j 0) (j 1)) :=
  broadcastInDim_apply _ bcast_S32x256_S32x256x1_0_1 r j (ix2 (j 0) (j 1)) fun a => match a with
    | ⟨0, _⟩ => rfl
    | ⟨1, _⟩ => rfl

/-- Where the fifth mask is set, the abnormal sample's attentions to the abnormal memory differ at that time step. -/
theorem aatt (j : S32x256x1.Idx) (h : (fn (F := Ideal) x0 x1 x2 x3 x4 x5 x6 x7).2.2.2.2.1 j = 1#1) :
    Function.Injective (att (pairOf x0 x1 x2 x3 x4 x5 x6 x7 (j 0)).AM ((pairOf x0 x1 x2 x3 x4 x5 x6 x7 (j 0)).ax (j 1))) := by
  rw [fn_eq] at h
  dsimp only at h
  exact rows_of (ReferenceIdeal.Read.val_main_v1 (F := Ideal) x0) _ (Reference.ax_eq x0 x1 x2 x3 x5 x4 x6 x7) x1 (j 0) (j 1)
    ((column_bit (rows (slots (ReferenceIdeal.Read.val_main_v1 (F := Ideal) x0) x1)) j).symm.trans h)

/-- Where the sixth mask is set, the normal sample's attentions to the normal memory differ at that time step. -/
theorem natt (j : S32x256x1.Idx) (h : (fn (F := Ideal) x0 x1 x2 x3 x4 x5 x6 x7).2.2.2.2.2.1 j = 1#1) :
    Function.Injective (att (pairOf x0 x1 x2 x3 x4 x5 x6 x7 (j 0)).NM ((pairOf x0 x1 x2 x3 x4 x5 x6 x7 (j 0)).nx (j 1))) := by
  rw [fn_eq] at h
  dsimp only at h
  exact rows_of (ReferenceIdeal.Read.val_main_v0 (F := Ideal) x0) _ (Reference.nx_eq x0 x1 x2 x3 x5 x4 x6 x7) x2 (j 0) (j 1)
    ((column_bit (rows (slots (ReferenceIdeal.Read.val_main_v0 (F := Ideal) x0) x2)) j).symm.trans h)

/-- Where the seventh mask is set, the normal sample's attentions to the abnormal memory differ at that time step. -/
theorem anatt (j : S32x256x1.Idx) (h : (fn (F := Ideal) x0 x1 x2 x3 x4 x5 x6 x7).2.2.2.2.2.2.1 j = 1#1) :
    Function.Injective (att (pairOf x0 x1 x2 x3 x4 x5 x6 x7 (j 0)).AM ((pairOf x0 x1 x2 x3 x4 x5 x6 x7 (j 0)).nx (j 1))) := by
  rw [fn_eq] at h
  dsimp only at h
  exact rows_of (ReferenceIdeal.Read.val_main_v0 (F := Ideal) x0) _ (Reference.nx_eq x0 x1 x2 x3 x5 x4 x6 x7) x1 (j 0) (j 1)
    ((column_bit (rows (slots (ReferenceIdeal.Read.val_main_v0 (F := Ideal) x0) x1)) j).symm.trans h)

/-- Where the eighth mask is set, the abnormal sample's attentions to the normal memory differ at that time step. -/
theorem naatt (j : S32x256x1.Idx) (h : (fn (F := Ideal) x0 x1 x2 x3 x4 x5 x6 x7).2.2.2.2.2.2.2 j = 1#1) :
    Function.Injective (att (pairOf x0 x1 x2 x3 x4 x5 x6 x7 (j 0)).NM ((pairOf x0 x1 x2 x3 x4 x5 x6 x7 (j 0)).ax (j 1))) := by
  rw [fn_eq] at h
  dsimp only at h
  exact rows_of (ReferenceIdeal.Read.val_main_v1 (F := Ideal) x0) _ (Reference.ax_eq x0 x1 x2 x3 x5 x4 x6 x7) x2 (j 0) (j 1)
    ((column_bit (rows (slots (ReferenceIdeal.Read.val_main_v1 (F := Ideal) x0) x2)) j).symm.trans h)

/-- No ties in a batch: row by row, and among the time steps of each sample. -/
def Distinct (M : Fin 32 → Mat) (s : Fin 32 → Sample) : Prop :=
  (∀ i, Args.RowsDistinct (M i) (s i)) ∧ ∀ i, Args.TimesDistinct (M i) (s i)

/-- Where the distance loss's mask is set, the two selections that it makes have no ties. -/
theorem dist (j : S1x1.Idx) (h : (fn (F := Ideal) x0 x1 x2 x3 x4 x5 x6 x7).2.2.2.1 j = 1#1) :
    Distinct (fun i => (pairOf x0 x1 x2 x3 x4 x5 x6 x7 i).AM) (fun i => (pairOf x0 x1 x2 x3 x4 x5 x6 x7 i).ax)
    ∧ Distinct (fun i => (pairOf x0 x1 x2 x3 x4 x5 x6 x7 i).NM) (fun i => (pairOf x0 x1 x2 x3 x4 x5 x6 x7 i).nx) := by
  rw [fn_eq] at h
  dsimp only at h
  have hb := and_bits h
  exact ⟨selects_of _ _ (Reference.ax_eq x0 x1 x2 x3 x5 x4 x6 x7) x1 _ hb.1, selects_of _ _ (Reference.nx_eq x0 x1 x2 x3 x5 x4 x6 x7) x2 _ hb.2⟩

/-- Where the triplet loss's mask is set, the three selections that it makes have no ties. -/
theorem tml (j : S1x1.Idx) (h : (fn (F := Ideal) x0 x1 x2 x3 x4 x5 x6 x7).2.1 j = 1#1) :
    Distinct (fun i => (pairOf x0 x1 x2 x3 x4 x5 x6 x7 i).AM) (fun i => (pairOf x0 x1 x2 x3 x4 x5 x6 x7 i).ax)
    ∧ Distinct (fun i => (pairOf x0 x1 x2 x3 x4 x5 x6 x7 i).NM) (fun i => (pairOf x0 x1 x2 x3 x4 x5 x6 x7 i).nx)
    ∧ Distinct (fun i => (pairOf x0 x1 x2 x3 x4 x5 x6 x7 i).NM) (fun i => (pairOf x0 x1 x2 x3 x4 x5 x6 x7 i).ax) := by
  rw [fn_eq] at h
  dsimp only at h
  have hb := and_bits h
  have hc := and_bits hb.1
  exact ⟨selects_of _ _ (Reference.ax_eq x0 x1 x2 x3 x5 x4 x6 x7) x1 _ hc.1, selects_of _ _ (Reference.nx_eq x0 x1 x2 x3 x5 x4 x6 x7) x2 _ hc.2,
    selects_of _ _ (Reference.ax_eq x0 x1 x2 x3 x5 x4 x6 x7) x2 _ hb.2⟩

end Read

end Cert.Mask
-- ==== Proof.Algebraic.lean ====
/-
  The kernel and the reference return the same arrays wherever the predicate `no_ties` holds: both are the plain
  mathematics of the arguments, which agree.
-/
module

public import proofs.«01_k».proof.Proof.Arrays
public import proofs.«01_k».proof.Proof.Mask
public import proofs.«01_k».proof.Proof.Gen.ReferenceIdeal.Run
public import proofs.«01_k».proof.Defs

@[expose] public section

noncomputable section

open Idealize.ShloMosaic Idealize.ShloMosaic.TcCoe Idealize.ShloMosaic.StableHlo Idealize.SL.Sem Cert.Spec Cert.HostOps

namespace Cert.Algebraic

open Cert.ReferenceIdeal.Read

variable [Cert.On_no_ties.Facts]

section ReferenceSide

open Cert.ReferenceIdeal

variable (x0 : FVec Ideal S64x256x512 .f32) (x1 x2 x3 x5 : Square) (x4 x6 : FVec Ideal S512 .f32) (x7 : Batch)

/-- The reference's triplet loss where its mask is set. -/
theorem reference_tml (i : S1x1.Idx) (h : (On_no_ties.fn (F := Ideal) x0 x1 x2 x3 x4 x5 x6 x7).2.1 i = 1#1) :
    val_main_v172 (F := Ideal) x0 x1 x2 i = tripletMean (pairOf x0 x1 x2 x3 x4 x5 x6 x7) :=
  have d := Mask.tml x0 x1 x2 x3 x5 x4 x6 x7 i h
  Reference.tml x0 x1 x2 x3 x5 x4 x6 x7 d.2.1.1 d.2.1.2 d.1.1 d.1.2 d.2.2.1 d.2.2.2 i

/-- The reference's distance loss where its mask is set. -/
theorem reference_dist (i : S1x1.Idx) (h : (On_no_ties.fn (F := Ideal) x0 x1 x2 x3 x4 x5 x6 x7).2.2.2.1 i = 1#1) :
    val_main_v174 (F := Ideal) x0 x1 x2 x3 x4 x5 x6 x7 i = distanceMean (pairOf x0 x1 x2 x3 x4 x5 x6 x7) :=
  have d := Mask.dist x0 x1 x2 x3 x5 x4 x6 x7 i h
  Reference.dist x0 x1 x2 x3 x5 x4 x6 x7 d.2.1 d.2.2 d.1.1 d.1.2 i

end ReferenceSide

section KernelSide

open Cert.KernelIdeal Cert.KernelIdeal.Gen Cert.KernelIdeal.Value Cert.KernelIdeal.Input

variable (m : (ℓ : Loc nD τ sig) → Buf (Elt Ideal) ℓ) (c : Dev nD)

/-- The predicate at the arguments a device holds. -/
abbrev mask := On_no_ties.fn (F := Ideal) (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7))

/-- The kernel's triplet loss where its mask is set. -/
theorem kernel_tml (i : S1x1.Idx) (h : (mask m c).2.1 i = 1#1) :
    (dats m 0 c).arrAt 14 cfg0.N i = tripletMean (pair m c) :=
  have d := Mask.tml _ _ _ _ _ _ _ _ i h
  Arrays.tml m c (fun k => ⟨d.1.1 k, d.1.2 k⟩) (fun k => ⟨d.2.1.1 k, d.2.1.2 k⟩) (fun k => ⟨d.2.2.1 k, d.2.2.2 k⟩) i

/-- The kernel's distance loss where its mask is set. -/
theorem kernel_dist (i : S1x1.Idx) (h : (mask m c).2.2.2.1 i = 1#1) :
    (dats m 0 c).arrAt 16 cfg0.N i = distanceMean (pair m c) :=
  have d := Mask.dist _ _ _ _ _ _ _ _ i h
  Arrays.dist m c (fun k => ⟨d.1.1 k, d.1.2 k⟩) (fun k => ⟨d.2.1 k, d.2.2 k⟩) i

/-- Every result of the kernel where its mask is set. -/
theorem kernel (ρ : Dev nD → PrngReg) :
    θ_run (defs (F := Ideal)) (onTc (τ := τ) (main (F := Ideal))) ⟨m, fun _ => 0, ρ⟩ fun r => ∀ c : Dev nD,
      (∀ i, (mask m c).1 i = 1#1 → r.2.mem ((c.tc : Thread nD τ).loc main_v8_0) i = featuresArray (pair m c) i)
      ∧ (∀ i, (mask m c).2.1 i = 1#1 → r.2.mem ((c.tc : Thread nD τ).loc main_v8_5) i = tripletMean (pair m c))
      ∧ (∀ i, (mask m c).2.2.1 i = 1#1 → r.2.mem ((c.tc : Thread nD τ).loc main_v8_6) i = klMean (pair m c))
      ∧ (∀ i, (mask m c).2.2.2.1 i = 1#1 → r.2.mem ((c.tc : Thread nD τ).loc main_v8_7) i = distanceMean (pair m c))
      ∧ (∀ i, (mask m c).2.2.2.2.1 i = 1#1 → r.2.mem ((c.tc : Thread nD τ).loc main_v8_1) i = column (pair m c) Args.tAA i)
      ∧ (∀ i, (mask m c).2.2.2.2.2.1 i = 1#1 → r.2.mem ((c.tc : Thread nD τ).loc main_v8_2) i = column (pair m c) Args.tNN i)
      ∧ (∀ i, (mask m c).2.2.2.2.2.2.1 i = 1#1 → r.2.mem ((c.tc : Thread nD τ).loc main_v8_3) i = column (pair m c) Args.tAN i)
      ∧ (∀ i, (mask m c).2.2.2.2.2.2.2 i = 1#1 → r.2.mem ((c.tc : Thread nD τ).loc main_v8_4) i = column (pair m c) Args.tNA i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run (defs (F := Ideal)) _ _).mono (fun r h c => ?_) (run_blocks (F := Ideal) m ρ)
  obtain ⟨h0, h1, h2, h3, h4, h5, h6, h7, rest⟩ := h c
  exact ⟨fun i _ => congrFun (h0.trans (Arrays.fm m c)) i,
    fun i k => (congrFun h5 i).trans (kernel_tml m c i k),
    fun i _ => (congrFun h6 i).trans (Arrays.kl m c i),
    fun i k => (congrFun h7 i).trans (kernel_dist m c i k),
    fun i k => (congrFun h1 i).trans (Arrays.aatt m c i (Mask.aatt _ _ _ _ _ _ _ _ i k)),
    fun i k => (congrFun h2 i).trans (Arrays.natt m c i (Mask.natt _ _ _ _ _ _ _ _ i k)),
    fun i k => (congrFun h3 i).trans (Arrays.anatt m c i (Mask.anatt _ _ _ _ _ _ _ _ i k)),
    fun i k => (congrFun h4 i).trans (Arrays.naatt m c i (Mask.naatt _ _ _ _ _ _ _ _ i k)), rest⟩

end KernelSide

section ReferenceRun

open Cert.ReferenceIdeal Cert.ReferenceIdeal.Gen

variable (m : (ℓ : Loc nD τ sig) → Buf (Elt Ideal) ℓ) (c : Dev nD)

/-- The predicate at the arguments a device of the reference holds. -/
abbrev mask' := On_no_ties.fn (F := Ideal) (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7))

/-- The pairs of samples a device of the reference holds. -/
abbrev pair' := pairOf (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7))

/-- Every result of the reference where its mask is set. -/
theorem reference (ρ : Dev nD → PrngReg) :
    θ_run (defs (F := Ideal)) (onTc (τ := τ) (main (F := Ideal))) ⟨m, fun _ => 0, ρ⟩ fun r => ∀ c : Dev nD,
      (∀ i, (mask' m c).1 i = 1#1 → r.2.mem ((c.tc : Thread nD τ).loc main_v171) i = featuresArray (pair' m c) i)
      ∧ (∀ i, (mask' m c).2.1 i = 1#1 → r.2.mem ((c.tc : Thread nD τ).loc main_v172) i = tripletMean (pair' m c))
      ∧ (∀ i, (mask' m c).2.2.1 i = 1#1 → r.2.mem ((c.tc : Thread nD τ).loc main_v173) i = klMean (pair' m c))
      ∧ (∀ i, (mask' m c).2.2.2.1 i = 1#1 → r.2.mem ((c.tc : Thread nD τ).loc main_v174) i = distanceMean (pair' m c))
      ∧ (∀ i, (mask' m c).2.2.2.2.1 i = 1#1 → r.2.mem ((c.tc : Thread nD τ).loc main_v175) i = column (pair' m c) Args.tAA i)
      ∧ (∀ i, (mask' m c).2.2.2.2.2.1 i = 1#1 → r.2.mem ((c.tc : Thread nD τ).loc main_v176) i = column (pair' m c) Args.tNN i)
      ∧ (∀ i, (mask' m c).2.2.2.2.2.2.1 i = 1#1 → r.2.mem ((c.tc : Thread nD τ).loc main_v177) i = column (pair' m c) Args.tAN i)
      ∧ (∀ i, (mask' m c).2.2.2.2.2.2.2 i = 1#1 → r.2.mem ((c.tc : Thread nD τ).loc main_v178) i = column (pair' m c) Args.tNA i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run (defs (F := Ideal)) _ _).mono (fun r h c => ?_) (Value.run (F := Ideal) m ρ)
  obtain ⟨h0, h1, h2, h3, h4, h5, h6, h7, rest⟩ := h c
  exact ⟨fun i _ => (congrFun (h0.trans (val_main_v171_eq (F := Ideal) (launchContents m c))) i).trans
      (Reference.fm _ _ _ _ _ _ _ _ i),
    fun i k => (congrFun (h1.trans (val_main_v172_eq (F := Ideal) (launchContents m c))) i).trans
      (reference_tml _ _ _ _ _ _ _ _ i k),
    fun i _ => (congrFun (h2.trans (val_main_v173_eq (F := Ideal) (launchContents m c))) i).trans
      (Reference.kl _ _ _ _ _ _ _ _ i),
    fun i k => (congrFun (h3.trans (val_main_v174_eq (F := Ideal) (launchContents m c))) i).trans
      (reference_dist _ _ _ _ _ _ _ _ i k),
    fun i k => (congrFun (h4.trans (val_main_v175_eq (F := Ideal) (launchContents m c))) i).trans
      (Reference.aatt _ _ _ _ _ _ _ _ i (Mask.aatt _ _ _ _ _ _ _ _ i k)),
    fun i k => (congrFun (h5.trans (val_main_v176_eq (F := Ideal) (launchContents m c))) i).trans
      (Reference.natt _ _ _ _ _ _ _ _ i (Mask.natt _ _ _ _ _ _ _ _ i k)),
    fun i k => (congrFun (h6.trans (val_main_v177_eq (F := Ideal) (launchContents m c))) i).trans
      (Reference.anatt _ _ _ _ _ _ _ _ i (Mask.anatt _ _ _ _ _ _ _ _ i k)),
    fun i k => (congrFun (h7.trans (val_main_v178_eq (F := Ideal) (launchContents m c))) i).trans
      (Reference.naatt _ _ _ _ _ _ _ _ i (Mask.naatt _ _ _ _ _ _ _ _ i k)), rest⟩

/-- The reference leaves its arguments as they were; it has no semaphore. -/
theorem reference_frame : Cert.quiescent_ReferenceIdeal := fun m ρ _ =>
  (θ_run (defs (F := Ideal)) _ _).mono (fun r h => ⟨fun c => (h c).2.2.2.2.2.2.2.2, sem_eq_zero_of_no_sems (by decide) r.2⟩)
    (Value.run (F := Ideal) m ρ)

end ReferenceRun

/-- A function of eight arguments takes equal values at equal arguments. -/
theorem same {A0 A1 A2 A3 A4 A5 A6 A7 B : Type} (f : A0 → A1 → A2 → A3 → A4 → A5 → A6 → A7 → B) {x0 y0 : A0} {x1 y1 : A1}
    {x2 y2 : A2} {x3 y3 : A3} {x4 y4 : A4} {x5 y5 : A5} {x6 y6 : A6} {x7 y7 : A7} (h0 : x0 = y0) (h1 : x1 = y1) (h2 : x2 = y2)
    (h3 : x3 = y3) (h4 : x4 = y4) (h5 : x5 = y5) (h6 : x6 = y6) (h7 : x7 = y7) :
    f x0 x1 x2 x3 x4 x5 x6 x7 = f y0 y1 y2 y3 y4 y5 y6 y7 := by
  subst h0 h1 h2 h3 h4 h5 h6 h7
  rfl

/-- The kernel and the reference return the same arrays where the mask is set. -/
theorem algebraic : Cert.algebraic_KernelIdeal_ReferenceIdeal_on_no_ties := by
  intro m g m' g' _ h
  have hp : ∀ c, pair' m' c = KernelIdeal.Input.pair m c := fun c =>
    have ⟨h0, h1, h2, h3, h4, h5, h6, h7⟩ := h c
    same pairOf h0 h1 h2 h3 h4 h5 h6 h7
  have hm : ∀ c, mask' m' c = mask m c := fun c =>
    have ⟨h0, h1, h2, h3, h4, h5, h6, h7⟩ := h c
    same (On_no_ties.fn (F := Ideal)) h0 h1 h2 h3 h4 h5 h6 h7
  refine ⟨fun c => featuresArray (KernelIdeal.Input.pair m c), fun c _ => tripletMean (KernelIdeal.Input.pair m c),
    fun c _ => klMean (KernelIdeal.Input.pair m c), fun c _ => distanceMean (KernelIdeal.Input.pair m c),
    fun c => column (KernelIdeal.Input.pair m c) Args.tAA, fun c => column (KernelIdeal.Input.pair m c) Args.tNN,
    fun c => column (KernelIdeal.Input.pair m c) Args.tAN, fun c => column (KernelIdeal.Input.pair m c) Args.tNA,
    kernel m g, (θ_run (ReferenceIdeal.defs (F := Ideal)) _ _).mono (fun r k c => ?_) (reference m' g')⟩
  have e := k c
  rw [hp c, hm c] at e
  exact e

end Cert.Algebraic

end
-- ==== Proof.lean ====
/-
  The certificate: every claim about the kernel, its idealization and the reference, put together.

  - The kernel and its idealization run to the end and leave their arguments as they were: the generated frames.
  - The reference does too: read off its run (Proof/Algebraic.lean).
  - The idealization is the kernel with three float literals named: `1/√512`, `1/33` and `1/17`.
  - The kernel and the reference return the same arrays wherever `no_ties` holds (Proof/Algebraic.lean). Proof/Spec.lean
    says in plain mathematics what they return; Proof/Arrays.lean reads the kernel's arrays so, Proof/Reference.lean the
    reference's, and Proof/Mask.lean says what the predicate gives.
-/
module

public import proofs.«01_k».proof.Defs
public import proofs.«01_k».proof.Proof.Gen.Kernel.Frame
public import proofs.«01_k».proof.Proof.Gen.KernelIdeal.Frame
public import proofs.«01_k».proof.Proof.Gen.On_no_ties
public import proofs.«01_k».proof.Proof.Algebraic
public import Idealize.ShloMosaic.PureOps.IdealRules

@[expose] public section

noncomputable section

namespace Cert.Proof

open Idealize.ShloMosaic

/-- Each literal the idealization names stands for the constant of that name. -/
theorem preserves : Cert.preserves_Kernel_KernelIdeal :=
  ⟨IdealRules.named_const.statement Cert.KernelIdeal.κ "inv_sqrt_d" .f32 0x3D3504F3#32 _ rfl,
    IdealRules.named_const.statement Cert.KernelIdeal.κ "inv_k_slot" .f32 0x3CF83E10#32 _ rfl,
    IdealRules.named_const.statement Cert.KernelIdeal.κ "inv_k_t" .f32 0x3D70F0F1#32 _ rfl⟩

/-- Every claim of the certificate. -/
theorem claim : Cert.Claim :=
  ⟨Cert.Kernel.Gen.facts, Cert.KernelIdeal.Gen.facts, Cert.ReferenceIdeal.Gen.facts, Cert.On_no_ties.Gen.facts,
    fun m ρ _ => Cert.Kernel.Gen.frame m ρ, fun m ρ _ => Cert.KernelIdeal.Gen.frame m ρ,
    Cert.Algebraic.reference_frame, preserves, Cert.Algebraic.algebraic⟩

end Cert.Proof

end
